-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 128, 64]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 128, 64]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x8192 : Shape := ⟨2, ![512, 8192]⟩
abbrev S2x256x4x64 : Shape := ⟨4, ![2, 256, 4, 64]⟩
abbrev S8192x512 : Shape := ⟨2, ![8192, 512]⟩
abbrev S_ : Shape := ⟨0, ![]⟩
abbrev S512x256 : Shape := ⟨2, ![512, 256]⟩
abbrev S256x512 : Shape := ⟨2, ![256, 512]⟩
abbrev S2x256x256 : Shape := ⟨3, ![2, 256, 256]⟩
abbrev S2x4x256x256 : Shape := ⟨4, ![2, 4, 256, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1x256x256 : Shape := ⟨4, ![1, 1, 256, 256]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩
abbrev S512x512 : Shape := ⟨2, ![512, 512]⟩
abbrev S32x16x512 : Shape := ⟨3, ![32, 16, 512]⟩
abbrev S16x512 : Shape := ⟨2, ![16, 512]⟩
abbrev S32 : Shape := ⟨1, ![32]⟩
abbrev S1 : Shape := ⟨1, ![1]⟩
abbrev S1x16x512 : Shape := ⟨3, ![1, 16, 512]⟩
abbrev S31x16x512 : Shape := ⟨3, ![31, 16, 512]⟩

abbrev nBuf : Space → Nat
  | .hbm => 153
  | .vmem => 6
  | .smem => 0
  | _ => 0

abbrev hbmTy0_0 (i : Nat) : BufTy := match i % 128 with
  | 0 => ⟨S2x256x512, .bf16⟩
  | 1 => ⟨S512x8192, .bf16⟩
  | 2 => ⟨S2x256x4x64, .bf16⟩
  | 3 => ⟨S2x256x4x64, .bf16⟩
  | 4 => ⟨S8192x512, .bf16⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S512x256, .bf16⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S256x512, .bf16⟩
  | 29 => ⟨S2x256x256, .f32⟩
  | 30 => ⟨S2x256x256, .bf16⟩
  | 31 => ⟨S2x256x4x64, .bf16⟩
  | 32 => ⟨S2x4x256x256, .f32⟩
  | 33 => ⟨S_, .f32⟩
  | 34 => ⟨S2x4x256x256, .f32⟩
  | 35 => ⟨S2x4x256x256, .f32⟩
  | 36 => ⟨S256, .i32⟩
  | 37 => ⟨S_, .i32⟩
  | 38 => ⟨S_, .i32⟩
  | 39 => ⟨S256, .i32⟩
  | 40 => ⟨S256, .i32⟩
  | 41 => ⟨S256, .i32⟩
  | 42 => ⟨S_, .i32⟩
  | 43 => ⟨S256, .i32⟩
  | 44 => ⟨S256, .i1⟩
  | 45 => ⟨S256, .i32⟩
  | 46 => ⟨S256, .i32⟩
  | 47 => ⟨S_, .i32⟩
  | 48 => ⟨S256, .i32⟩
  | 49 => ⟨S256, .i1⟩
  | 50 => ⟨S256, .i1⟩
  | 51 => ⟨S_, .i32⟩
  | 52 => ⟨S256, .i32⟩
  | 53 => ⟨S256, .i32⟩
  | 54 => ⟨S256, .i32⟩
  | 55 => ⟨S256x1, .i32⟩
  | 56 => ⟨S256, .i32⟩
  | 57 => ⟨S_, .i32⟩
  | 58 => ⟨S_, .i32⟩
  | 59 => ⟨S256, .i32⟩
  | 60 => ⟨S256, .i32⟩
  | 61 => ⟨S256, .i32⟩
  | 62 => ⟨S_, .i32⟩
  | 63 => ⟨S256, .i32⟩
  | 64 => ⟨S256, .i1⟩
  | 65 => ⟨S256, .i32⟩
  | 66 => ⟨S256, .i32⟩
  | 67 => ⟨S_, .i32⟩
  | 68 => ⟨S256, .i32⟩
  | 69 => ⟨S256, .i1⟩
  | 70 => ⟨S256, .i1⟩
  | 71 => ⟨S_, .i32⟩
  | 72 => ⟨S256, .i32⟩
  | 73 => ⟨S256, .i32⟩
  | 74 => ⟨S256, .i32⟩
  | 75 => ⟨S1x256, .i32⟩
  | 76 => ⟨S256x256, .i32⟩
  | 77 => ⟨S256x256, .i32⟩
  | 78 => ⟨S256x256, .i1⟩
  | 79 => ⟨S_, .i32⟩
  | 80 => ⟨S1x256, .i32⟩
  | 81 => ⟨S1x256, .i1⟩
  | 82 => ⟨S256x256, .i1⟩
  | 83 => ⟨S256x256, .i1⟩
  | 84 => ⟨S256x256, .i32⟩
  | 85 => ⟨S256x256, .i32⟩
  | 86 => ⟨S256x256, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S256x256, .i32⟩
  | 94 => ⟨S256x256, .i32⟩
  | 95 => ⟨S_, .i32⟩
  | 96 => ⟨S256x256, .i32⟩
  | 97 => ⟨S256x256, .i1⟩
  | 98 => ⟨S_, .i32⟩
  | 99 => ⟨S256x256, .i32⟩
  | 100 => ⟨S256x256, .i1⟩
  | 101 => ⟨S_, .i32⟩
  | 102 => ⟨S_, .i1⟩
  | 103 => ⟨S256x256, .i1⟩
  | 104 => ⟨S256x256, .i1⟩
  | 105 => ⟨S256x256, .i1⟩
  | 106 => ⟨S256x256, .i32⟩
  | 107 => ⟨S256x256, .i32⟩
  | 108 => ⟨S256x256, .i32⟩
  | 109 => ⟨S_, .i32⟩
  | 110 => ⟨S256x256, .i32⟩
  | 111 => ⟨S256x256, .i1⟩
  | 112 => ⟨S256x256, .i1⟩
  | 113 => ⟨S1x1x256x256, .i1⟩
  | 114 => ⟨S_, .f32⟩
  | 115 => ⟨S_, .f32⟩
  | 116 => ⟨S2x4x256x256, .i1⟩
  | 117 => ⟨S2x4x256x256, .f32⟩
  | 118 => ⟨S2x4x256x256, .f32⟩
  | 119 => ⟨S_, .f32⟩
  | 120 => ⟨S2x4x256, .f32⟩
  | 121 => ⟨S2x4x256x1, .f32⟩
  | 122 => ⟨S2x4x256x256, .f32⟩
  | 123 => ⟨S2x4x256x256, .f32⟩
  | 124 => ⟨S2x4x256x256, .f32⟩
  | 125 => ⟨S_, .i1⟩
  | 126 => ⟨S256, .i1⟩
  | 127 => ⟨S1x1x256x1, .i1⟩
  | _ => ⟨S2x256x512, .bf16⟩

abbrev hbmTy0_1 (i : Nat) : BufTy := match i % 128 with
  | 0 => ⟨S_, .f32⟩
  | 1 => ⟨S2x4x256, .f32⟩
  | 2 => ⟨S2x4x256x1, .f32⟩
  | 3 => ⟨S_, .f32⟩
  | 4 => ⟨S_, .f32⟩
  | 5 => ⟨S2x4x256x1, .i1⟩
  | 6 => ⟨S2x4x256x1, .f32⟩
  | 7 => ⟨S2x4x256x1, .f32⟩
  | 8 => ⟨S1x1x256x1, .i1⟩
  | 9 => ⟨S2x4x256x256, .f32⟩
  | 10 => ⟨S2x4x256x256, .f32⟩
  | 11 => ⟨S_, .f32⟩
  | 12 => ⟨S_, .f32⟩
  | 13 => ⟨S2x4x256x256, .i1⟩
  | 14 => ⟨S2x4x256x256, .f32⟩
  | 15 => ⟨S2x4x256x256, .f32⟩
  | 16 => ⟨S2x4x256x256, .bf16⟩
  | 17 => ⟨S2x4x64x256, .f32⟩
  | 18 => ⟨S2x256x4x64, .f32⟩
  | 19 => ⟨S2x256x4x64, .bf16⟩
  | 20 => ⟨S2x256x256, .bf16⟩
  | 21 => ⟨S2x256x512, .f32⟩
  | 22 => ⟨S512x512, .f32⟩
  | 23 => ⟨S512x512, .f32⟩
  | 24 => ⟨S2x256x512, .f32⟩
  | _ => ⟨S2x256x512, .bf16⟩

abbrev hbmTy (i : Nat) : BufTy := match i / 128 with
  | 0 => hbmTy0_0 i
  | 1 => hbmTy0_1 i
  | _ => ⟨S2x256x512, .bf16⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S32x16x512, .bf16⟩
  | .local _ .vmem, ⟨4, _⟩ => ⟨S512x512, .bf16⟩
  | .local _ .vmem, ⟨5, _⟩ => ⟨S16x512, .f32⟩
  | _, _ => ⟨S2x256x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_9 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_10 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_c : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_0 : Ref sig .tc := ⟨.hbm, 71, rfl⟩
abbrev main_call1_v12 : Ref sig .tc := ⟨.hbm, 72, rfl⟩
abbrev main_call1_v13 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_c_11 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_c_12 : Ref sig .tc := ⟨.hbm, 87, rfl⟩
abbrev main_call2_v0 : Ref sig .tc := ⟨.hbm, 88, rfl⟩
abbrev main_call2_c : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_c_1 : Ref sig .tc := ⟨.hbm, 95, rfl⟩
abbrev main_call2_v5 : Ref sig .tc := ⟨.hbm, 96, rfl⟩
abbrev main_call2_v6 : Ref sig .tc := ⟨.hbm, 97, rfl⟩
abbrev main_call2_c_2 : Ref sig .tc := ⟨.hbm, 98, rfl⟩
abbrev main_call2_v7 : Ref sig .tc := ⟨.hbm, 99, rfl⟩
abbrev main_call2_v8 : Ref sig .tc := ⟨.hbm, 100, rfl⟩
abbrev main_call2_c_3 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_v37 : Ref sig .tc := ⟨.hbm, 108, rfl⟩
abbrev main_c_13 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_cst_14 : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_v42 : Ref sig .tc := ⟨.hbm, 118, rfl⟩
abbrev main_cst_15 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_c_16 : Ref sig .tc := ⟨.hbm, 125, rfl⟩
abbrev main_v48 : Ref sig .tc := ⟨.hbm, 126, rfl⟩
abbrev main_v49 : Ref sig .tc := ⟨.hbm, 127, rfl⟩
abbrev main_cst_17 : Ref sig .tc := ⟨.hbm, 128, rfl⟩
abbrev main_v50 : Ref sig .tc := ⟨.hbm, 129, rfl⟩
abbrev main_v51 : Ref sig .tc := ⟨.hbm, 130, rfl⟩
abbrev main_cst_18 : Ref sig .tc := ⟨.hbm, 131, rfl⟩
abbrev main_call4_v0 : Ref sig .tc := ⟨.hbm, 132, rfl⟩
abbrev main_call4_v1 : Ref sig .tc := ⟨.hbm, 133, rfl⟩
abbrev main_call4_v2 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_cst_19 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier1 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c1_i32_283 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v413 : BitVec 32 := Scalar.addi v2 c1_i32_283
  let c32_i32_284 : BitVec 32 := 32#32
  let c0_i32_285 : BitVec 32 := 0#32
  let v414 : BitVec 1 := Scalar.cmpi .eq c32_i32_284 c0_i32_285
  let c1_i32_286 : BitVec 32 := 1#32
  let v415 : BitVec 32 := Scalar.select v414 c1_i32_286 c32_i32_284
  let v416 : BitVec 32 := Scalar.remsi v413 v415
  let c0_i32_288 : BitVec 32 := 0#32
  let v418 : BitVec 1 := Scalar.cmpi .slt v416 c0_i32_288
  let c0_i32_289 : BitVec 32 := 0#32
  let v419 : BitVec 1 := Scalar.cmpi .slt v415 c0_i32_289
  let v420 : BitVec 1 := Scalar.xori v418 v419
  let c0_i32_287 : BitVec 32 := 0#32
  let v417 : BitVec 1 := Scalar.cmpi .ne v416 c0_i32_287
  let v421 : BitVec 1 := Scalar.andi v420 v417
  let v422 : BitVec 32 := Scalar.addi v416 v415
  let v423 : BitVec 32 := Scalar.select v421 v422 v416
  let c16_i32_290 : BitVec 32 := 16#32
  let v424 : BitVec 32 := Scalar.muli v423 c16_i32_290
  let c0_i32_298 : BitVec 32 := 0#32
  ![v424.toNat, 0]
def k0_dev32 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_283 : BitVec 32 := 1#32
  let v413 : BitVec 32 := Scalar.addi v2 c1_i32_283
  let c32_i32_284 : BitVec 32 := 32#32
  let c0_i32_285 : BitVec 32 := 0#32
  let v414 : BitVec 1 := Scalar.cmpi .eq c32_i32_284 c0_i32_285
  let c1_i32_286 : BitVec 32 := 1#32
  let v415 : BitVec 32 := Scalar.select v414 c1_i32_286 c32_i32_284
  let v416 : BitVec 32 := Scalar.remsi v413 v415
  let c0_i32_288 : BitVec 32 := 0#32
  let v418 : BitVec 1 := Scalar.cmpi .slt v416 c0_i32_288
  let c0_i32_289 : BitVec 32 := 0#32
  let v419 : BitVec 1 := Scalar.cmpi .slt v415 c0_i32_289
  let v420 : BitVec 1 := Scalar.xori v418 v419
  let c0_i32_287 : BitVec 32 := 0#32
  let v417 : BitVec 1 := Scalar.cmpi .ne v416 c0_i32_287
  let v421 : BitVec 1 := Scalar.andi v420 v417
  let v422 : BitVec 32 := Scalar.addi v416 v415
  let v423 : BitVec 32 := Scalar.select v421 v422 v416
  let c1_i32_294 : BitVec 32 := 1#32
  let v425 : BitVec 32 := Scalar.muli v423 c1_i32_294
  let v426 : BitVec 32 := Scalar.addi c0_i32_295 v425
  v426.toNat
def k0_dev33 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_299 : BitVec 32 := 2#32
  let v434 : BitVec 32 := Scalar.addi v2 c2_i32_299
  let c32_i32_300 : BitVec 32 := 32#32
  let c0_i32_301 : BitVec 32 := 0#32
  let v435 : BitVec 1 := Scalar.cmpi .eq c32_i32_300 c0_i32_301
  let c1_i32_302 : BitVec 32 := 1#32
  let v436 : BitVec 32 := Scalar.select v435 c1_i32_302 c32_i32_300
  let v437 : BitVec 32 := Scalar.remsi v434 v436
  let c0_i32_304 : BitVec 32 := 0#32
  let v439 : BitVec 1 := Scalar.cmpi .slt v437 c0_i32_304
  let c0_i32_305 : BitVec 32 := 0#32
  let v440 : BitVec 1 := Scalar.cmpi .slt v436 c0_i32_305
  let v441 : BitVec 1 := Scalar.xori v439 v440
  let c0_i32_303 : BitVec 32 := 0#32
  let v438 : BitVec 1 := Scalar.cmpi .ne v437 c0_i32_303
  let v442 : BitVec 1 := Scalar.andi v441 v438
  let v443 : BitVec 32 := Scalar.addi v437 v436
  let v444 : BitVec 32 := Scalar.select v442 v443 v437
  let c1_i32_310 : BitVec 32 := 1#32
  let v446 : BitVec 32 := Scalar.muli v444 c1_i32_310
  let v447 : BitVec 32 := Scalar.addi c0_i32_311 v446
  v447.toNat
def k0_dev34 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_315 : BitVec 32 := 3#32
  let v455 : BitVec 32 := Scalar.addi v2 c3_i32_315
  let c32_i32_316 : BitVec 32 := 32#32
  let c0_i32_317 : BitVec 32 := 0#32
  let v456 : BitVec 1 := Scalar.cmpi .eq c32_i32_316 c0_i32_317
  let c1_i32_318 : BitVec 32 := 1#32
  let v457 : BitVec 32 := Scalar.select v456 c1_i32_318 c32_i32_316
  let v458 : BitVec 32 := Scalar.remsi v455 v457
  let c0_i32_320 : BitVec 32 := 0#32
  let v460 : BitVec 1 := Scalar.cmpi .slt v458 c0_i32_320
  let c0_i32_321 : BitVec 32 := 0#32
  let v461 : BitVec 1 := Scalar.cmpi .slt v457 c0_i32_321
  let v462 : BitVec 1 := Scalar.xori v460 v461
  let c0_i32_319 : BitVec 32 := 0#32
  let v459 : BitVec 1 := Scalar.cmpi .ne v458 c0_i32_319
  let v463 : BitVec 1 := Scalar.andi v462 v459
  let v464 : BitVec 32 := Scalar.addi v458 v457
  let v465 : BitVec 32 := Scalar.select v463 v464 v458
  let c1_i32_326 : BitVec 32 := 1#32
  let v467 : BitVec 32 := Scalar.muli v465 c1_i32_326
  let v468 : BitVec 32 := Scalar.addi c0_i32_327 v467
  v468.toNat
def k0_dev35 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_331 : BitVec 32 := 4#32
  let v476 : BitVec 32 := Scalar.addi v2 c4_i32_331
  let c32_i32_332 : BitVec 32 := 32#32
  let c0_i32_333 : BitVec 32 := 0#32
  let v477 : BitVec 1 := Scalar.cmpi .eq c32_i32_332 c0_i32_333
  let c1_i32_334 : BitVec 32 := 1#32
  let v478 : BitVec 32 := Scalar.select v477 c1_i32_334 c32_i32_332
  let v479 : BitVec 32 := Scalar.remsi v476 v478
  let c0_i32_336 : BitVec 32 := 0#32
  let v481 : BitVec 1 := Scalar.cmpi .slt v479 c0_i32_336
  let c0_i32_337 : BitVec 32 := 0#32
  let v482 : BitVec 1 := Scalar.cmpi .slt v478 c0_i32_337
  let v483 : BitVec 1 := Scalar.xori v481 v482
  let c0_i32_335 : BitVec 32 := 0#32
  let v480 : BitVec 1 := Scalar.cmpi .ne v479 c0_i32_335
  let v484 : BitVec 1 := Scalar.andi v483 v480
  let v485 : BitVec 32 := Scalar.addi v479 v478
  let v486 : BitVec 32 := Scalar.select v484 v485 v479
  let c1_i32_342 : BitVec 32 := 1#32
  let v488 : BitVec 32 := Scalar.muli v486 c1_i32_342
  let v489 : BitVec 32 := Scalar.addi c0_i32_343 v488
  v489.toNat
def k0_dev36 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_347 : BitVec 32 := 5#32
  let v497 : BitVec 32 := Scalar.addi v2 c5_i32_347
  let c32_i32_348 : BitVec 32 := 32#32
  let c0_i32_349 : BitVec 32 := 0#32
  let v498 : BitVec 1 := Scalar.cmpi .eq c32_i32_348 c0_i32_349
  let c1_i32_350 : BitVec 32 := 1#32
  let v499 : BitVec 32 := Scalar.select v498 c1_i32_350 c32_i32_348
  let v500 : BitVec 32 := Scalar.remsi v497 v499
  let c0_i32_352 : BitVec 32 := 0#32
  let v502 : BitVec 1 := Scalar.cmpi .slt v500 c0_i32_352
  let c0_i32_353 : BitVec 32 := 0#32
  let v503 : BitVec 1 := Scalar.cmpi .slt v499 c0_i32_353
  let v504 : BitVec 1 := Scalar.xori v502 v503
  let c0_i32_351 : BitVec 32 := 0#32
  let v501 : BitVec 1 := Scalar.cmpi .ne v500 c0_i32_351
  let v505 : BitVec 1 := Scalar.andi v504 v501
  let v506 : BitVec 32 := Scalar.addi v500 v499
  let v507 : BitVec 32 := Scalar.select v505 v506 v500
  let c1_i32_358 : BitVec 32 := 1#32
  let v509 : BitVec 32 := Scalar.muli v507 c1_i32_358
  let v510 : BitVec 32 := Scalar.addi c0_i32_359 v509
  v510.toNat
def k0_dev37 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_363 : BitVec 32 := 6#32
  let v518 : BitVec 32 := Scalar.addi v2 c6_i32_363
  let c32_i32_364 : BitVec 32 := 32#32
  let c0_i32_365 : BitVec 32 := 0#32
  let v519 : BitVec 1 := Scalar.cmpi .eq c32_i32_364 c0_i32_365
  let c1_i32_366 : BitVec 32 := 1#32
  let v520 : BitVec 32 := Scalar.select v519 c1_i32_366 c32_i32_364
  let v521 : BitVec 32 := Scalar.remsi v518 v520
  let c0_i32_368 : BitVec 32 := 0#32
  let v523 : BitVec 1 := Scalar.cmpi .slt v521 c0_i32_368
  let c0_i32_369 : BitVec 32 := 0#32
  let v524 : BitVec 1 := Scalar.cmpi .slt v520 c0_i32_369
  let v525 : BitVec 1 := Scalar.xori v523 v524
  let c0_i32_367 : BitVec 32 := 0#32
  let v522 : BitVec 1 := Scalar.cmpi .ne v521 c0_i32_367
  let v526 : BitVec 1 := Scalar.andi v525 v522
  let v527 : BitVec 32 := Scalar.addi v521 v520
  let v528 : BitVec 32 := Scalar.select v526 v527 v521
  let c1_i32_374 : BitVec 32 := 1#32
  let v530 : BitVec 32 := Scalar.muli v528 c1_i32_374
  let v531 : BitVec 32 := Scalar.addi c0_i32_375 v530
  v531.toNat
def k0_dev38 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_379 : BitVec 32 := 7#32
  let v539 : BitVec 32 := Scalar.addi v2 c7_i32_379
  let c32_i32_380 : BitVec 32 := 32#32
  let c0_i32_381 : BitVec 32 := 0#32
  let v540 : BitVec 1 := Scalar.cmpi .eq c32_i32_380 c0_i32_381
  let c1_i32_382 : BitVec 32 := 1#32
  let v541 : BitVec 32 := Scalar.select v540 c1_i32_382 c32_i32_380
  let v542 : BitVec 32 := Scalar.remsi v539 v541
  let c0_i32_384 : BitVec 32 := 0#32
  let v544 : BitVec 1 := Scalar.cmpi .slt v542 c0_i32_384
  let c0_i32_385 : BitVec 32 := 0#32
  let v545 : BitVec 1 := Scalar.cmpi .slt v541 c0_i32_385
  let v546 : BitVec 1 := Scalar.xori v544 v545
  let c0_i32_383 : BitVec 32 := 0#32
  let v543 : BitVec 1 := Scalar.cmpi .ne v542 c0_i32_383
  let v547 : BitVec 1 := Scalar.andi v546 v543
  let v548 : BitVec 32 := Scalar.addi v542 v541
  let v549 : BitVec 32 := Scalar.select v547 v548 v542
  let c1_i32_390 : BitVec 32 := 1#32
  let v551 : BitVec 32 := Scalar.muli v549 c1_i32_390
  let v552 : BitVec 32 := Scalar.addi c0_i32_391 v551
  v552.toNat
def k0_dev39 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_395 : BitVec 32 := 8#32
  let v560 : BitVec 32 := Scalar.addi v2 c8_i32_395
  let c32_i32_396 : BitVec 32 := 32#32
  let c0_i32_397 : BitVec 32 := 0#32
  let v561 : BitVec 1 := Scalar.cmpi .eq c32_i32_396 c0_i32_397
  let c1_i32_398 : BitVec 32 := 1#32
  let v562 : BitVec 32 := Scalar.select v561 c1_i32_398 c32_i32_396
  let v563 : BitVec 32 := Scalar.remsi v560 v562
  let c0_i32_400 : BitVec 32 := 0#32
  let v565 : BitVec 1 := Scalar.cmpi .slt v563 c0_i32_400
  let c0_i32_401 : BitVec 32 := 0#32
  let v566 : BitVec 1 := Scalar.cmpi .slt v562 c0_i32_401
  let v567 : BitVec 1 := Scalar.xori v565 v566
  let c0_i32_399 : BitVec 32 := 0#32
  let v564 : BitVec 1 := Scalar.cmpi .ne v563 c0_i32_399
  let v568 : BitVec 1 := Scalar.andi v567 v564
  let v569 : BitVec 32 := Scalar.addi v563 v562
  let v570 : BitVec 32 := Scalar.select v568 v569 v563
  let c1_i32_406 : BitVec 32 := 1#32
  let v572 : BitVec 32 := Scalar.muli v570 c1_i32_406
  let v573 : BitVec 32 := Scalar.addi c0_i32_407 v572
  v573.toNat
def k0_dev40 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_411 : BitVec 32 := 9#32
  let v581 : BitVec 32 := Scalar.addi v2 c9_i32_411
  let c32_i32_412 : BitVec 32 := 32#32
  let c0_i32_413 : BitVec 32 := 0#32
  let v582 : BitVec 1 := Scalar.cmpi .eq c32_i32_412 c0_i32_413
  let c1_i32_414 : BitVec 32 := 1#32
  let v583 : BitVec 32 := Scalar.select v582 c1_i32_414 c32_i32_412
  let v584 : BitVec 32 := Scalar.remsi v581 v583
  let c0_i32_416 : BitVec 32 := 0#32
  let v586 : BitVec 1 := Scalar.cmpi .slt v584 c0_i32_416
  let c0_i32_417 : BitVec 32 := 0#32
  let v587 : BitVec 1 := Scalar.cmpi .slt v583 c0_i32_417
  let v588 : BitVec 1 := Scalar.xori v586 v587
  let c0_i32_415 : BitVec 32 := 0#32
  let v585 : BitVec 1 := Scalar.cmpi .ne v584 c0_i32_415
  let v589 : BitVec 1 := Scalar.andi v588 v585
  let v590 : BitVec 32 := Scalar.addi v584 v583
  let v591 : BitVec 32 := Scalar.select v589 v590 v584
  let c1_i32_422 : BitVec 32 := 1#32
  let v593 : BitVec 32 := Scalar.muli v591 c1_i32_422
  let v594 : BitVec 32 := Scalar.addi c0_i32_423 v593
  v594.toNat
def k0_dev41 (d0 : Dev nD) : Nat :=
  let c0_i32_439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_427 : BitVec 32 := 10#32
  let v602 : BitVec 32 := Scalar.addi v2 c10_i32_427
  let c32_i32_428 : BitVec 32 := 32#32
  let c0_i32_429 : BitVec 32 := 0#32
  let v603 : BitVec 1 := Scalar.cmpi .eq c32_i32_428 c0_i32_429
  let c1_i32_430 : BitVec 32 := 1#32
  let v604 : BitVec 32 := Scalar.select v603 c1_i32_430 c32_i32_428
  let v605 : BitVec 32 := Scalar.remsi v602 v604
  let c0_i32_432 : BitVec 32 := 0#32
  let v607 : BitVec 1 := Scalar.cmpi .slt v605 c0_i32_432
  let c0_i32_433 : BitVec 32 := 0#32
  let v608 : BitVec 1 := Scalar.cmpi .slt v604 c0_i32_433
  let v609 : BitVec 1 := Scalar.xori v607 v608
  let c0_i32_431 : BitVec 32 := 0#32
  let v606 : BitVec 1 := Scalar.cmpi .ne v605 c0_i32_431
  let v610 : BitVec 1 := Scalar.andi v609 v606
  let v611 : BitVec 32 := Scalar.addi v605 v604
  let v612 : BitVec 32 := Scalar.select v610 v611 v605
  let c1_i32_438 : BitVec 32 := 1#32
  let v614 : BitVec 32 := Scalar.muli v612 c1_i32_438
  let v615 : BitVec 32 := Scalar.addi c0_i32_439 v614
  v615.toNat
def k0_dev42 (d0 : Dev nD) : Nat :=
  let c0_i32_455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_443 : BitVec 32 := 11#32
  let v623 : BitVec 32 := Scalar.addi v2 c11_i32_443
  let c32_i32_444 : BitVec 32 := 32#32
  let c0_i32_445 : BitVec 32 := 0#32
  let v624 : BitVec 1 := Scalar.cmpi .eq c32_i32_444 c0_i32_445
  let c1_i32_446 : BitVec 32 := 1#32
  let v625 : BitVec 32 := Scalar.select v624 c1_i32_446 c32_i32_444
  let v626 : BitVec 32 := Scalar.remsi v623 v625
  let c0_i32_448 : BitVec 32 := 0#32
  let v628 : BitVec 1 := Scalar.cmpi .slt v626 c0_i32_448
  let c0_i32_449 : BitVec 32 := 0#32
  let v629 : BitVec 1 := Scalar.cmpi .slt v625 c0_i32_449
  let v630 : BitVec 1 := Scalar.xori v628 v629
  let c0_i32_447 : BitVec 32 := 0#32
  let v627 : BitVec 1 := Scalar.cmpi .ne v626 c0_i32_447
  let v631 : BitVec 1 := Scalar.andi v630 v627
  let v632 : BitVec 32 := Scalar.addi v626 v625
  let v633 : BitVec 32 := Scalar.select v631 v632 v626
  let c1_i32_454 : BitVec 32 := 1#32
  let v635 : BitVec 32 := Scalar.muli v633 c1_i32_454
  let v636 : BitVec 32 := Scalar.addi c0_i32_455 v635
  v636.toNat
def k0_dev43 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_459 : BitVec 32 := 12#32
  let v644 : BitVec 32 := Scalar.addi v2 c12_i32_459
  let c32_i32_460 : BitVec 32 := 32#32
  let c0_i32_461 : BitVec 32 := 0#32
  let v645 : BitVec 1 := Scalar.cmpi .eq c32_i32_460 c0_i32_461
  let c1_i32_462 : BitVec 32 := 1#32
  let v646 : BitVec 32 := Scalar.select v645 c1_i32_462 c32_i32_460
  let v647 : BitVec 32 := Scalar.remsi v644 v646
  let c0_i32_464 : BitVec 32 := 0#32
  let v649 : BitVec 1 := Scalar.cmpi .slt v647 c0_i32_464
  let c0_i32_465 : BitVec 32 := 0#32
  let v650 : BitVec 1 := Scalar.cmpi .slt v646 c0_i32_465
  let v651 : BitVec 1 := Scalar.xori v649 v650
  let c0_i32_463 : BitVec 32 := 0#32
  let v648 : BitVec 1 := Scalar.cmpi .ne v647 c0_i32_463
  let v652 : BitVec 1 := Scalar.andi v651 v648
  let v653 : BitVec 32 := Scalar.addi v647 v646
  let v654 : BitVec 32 := Scalar.select v652 v653 v647
  let c1_i32_470 : BitVec 32 := 1#32
  let v656 : BitVec 32 := Scalar.muli v654 c1_i32_470
  let v657 : BitVec 32 := Scalar.addi c0_i32_471 v656
  v657.toNat
def k0_dev44 (d0 : Dev nD) : Nat :=
  let c0_i32_487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_475 : BitVec 32 := 13#32
  let v665 : BitVec 32 := Scalar.addi v2 c13_i32_475
  let c32_i32_476 : BitVec 32 := 32#32
  let c0_i32_477 : BitVec 32 := 0#32
  let v666 : BitVec 1 := Scalar.cmpi .eq c32_i32_476 c0_i32_477
  let c1_i32_478 : BitVec 32 := 1#32
  let v667 : BitVec 32 := Scalar.select v666 c1_i32_478 c32_i32_476
  let v668 : BitVec 32 := Scalar.remsi v665 v667
  let c0_i32_480 : BitVec 32 := 0#32
  let v670 : BitVec 1 := Scalar.cmpi .slt v668 c0_i32_480
  let c0_i32_481 : BitVec 32 := 0#32
  let v671 : BitVec 1 := Scalar.cmpi .slt v667 c0_i32_481
  let v672 : BitVec 1 := Scalar.xori v670 v671
  let c0_i32_479 : BitVec 32 := 0#32
  let v669 : BitVec 1 := Scalar.cmpi .ne v668 c0_i32_479
  let v673 : BitVec 1 := Scalar.andi v672 v669
  let v674 : BitVec 32 := Scalar.addi v668 v667
  let v675 : BitVec 32 := Scalar.select v673 v674 v668
  let c1_i32_486 : BitVec 32 := 1#32
  let v677 : BitVec 32 := Scalar.muli v675 c1_i32_486
  let v678 : BitVec 32 := Scalar.addi c0_i32_487 v677
  v678.toNat
def k0_dev45 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_491 : BitVec 32 := 14#32
  let v686 : BitVec 32 := Scalar.addi v2 c14_i32_491
  let c32_i32_492 : BitVec 32 := 32#32
  let c0_i32_493 : BitVec 32 := 0#32
  let v687 : BitVec 1 := Scalar.cmpi .eq c32_i32_492 c0_i32_493
  let c1_i32_494 : BitVec 32 := 1#32
  let v688 : BitVec 32 := Scalar.select v687 c1_i32_494 c32_i32_492
  let v689 : BitVec 32 := Scalar.remsi v686 v688
  let c0_i32_496 : BitVec 32 := 0#32
  let v691 : BitVec 1 := Scalar.cmpi .slt v689 c0_i32_496
  let c0_i32_497 : BitVec 32 := 0#32
  let v692 : BitVec 1 := Scalar.cmpi .slt v688 c0_i32_497
  let v693 : BitVec 1 := Scalar.xori v691 v692
  let c0_i32_495 : BitVec 32 := 0#32
  let v690 : BitVec 1 := Scalar.cmpi .ne v689 c0_i32_495
  let v694 : BitVec 1 := Scalar.andi v693 v690
  let v695 : BitVec 32 := Scalar.addi v689 v688
  let v696 : BitVec 32 := Scalar.select v694 v695 v689
  let c1_i32_502 : BitVec 32 := 1#32
  let v698 : BitVec 32 := Scalar.muli v696 c1_i32_502
  let v699 : BitVec 32 := Scalar.addi c0_i32_503 v698
  v699.toNat
def k0_dev46 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_507 : BitVec 32 := 15#32
  let v707 : BitVec 32 := Scalar.addi v2 c15_i32_507
  let c32_i32_508 : BitVec 32 := 32#32
  let c0_i32_509 : BitVec 32 := 0#32
  let v708 : BitVec 1 := Scalar.cmpi .eq c32_i32_508 c0_i32_509
  let c1_i32_510 : BitVec 32 := 1#32
  let v709 : BitVec 32 := Scalar.select v708 c1_i32_510 c32_i32_508
  let v710 : BitVec 32 := Scalar.remsi v707 v709
  let c0_i32_512 : BitVec 32 := 0#32
  let v712 : BitVec 1 := Scalar.cmpi .slt v710 c0_i32_512
  let c0_i32_513 : BitVec 32 := 0#32
  let v713 : BitVec 1 := Scalar.cmpi .slt v709 c0_i32_513
  let v714 : BitVec 1 := Scalar.xori v712 v713
  let c0_i32_511 : BitVec 32 := 0#32
  let v711 : BitVec 1 := Scalar.cmpi .ne v710 c0_i32_511
  let v715 : BitVec 1 := Scalar.andi v714 v711
  let v716 : BitVec 32 := Scalar.addi v710 v709
  let v717 : BitVec 32 := Scalar.select v715 v716 v710
  let c1_i32_518 : BitVec 32 := 1#32
  let v719 : BitVec 32 := Scalar.muli v717 c1_i32_518
  let v720 : BitVec 32 := Scalar.addi c0_i32_519 v719
  v720.toNat
def k0_dev47 (d0 : Dev nD) : Nat :=
  let c0_i32_535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_523 : BitVec 32 := 16#32
  let v728 : BitVec 32 := Scalar.addi v2 c16_i32_523
  let c32_i32_524 : BitVec 32 := 32#32
  let c0_i32_525 : BitVec 32 := 0#32
  let v729 : BitVec 1 := Scalar.cmpi .eq c32_i32_524 c0_i32_525
  let c1_i32_526 : BitVec 32 := 1#32
  let v730 : BitVec 32 := Scalar.select v729 c1_i32_526 c32_i32_524
  let v731 : BitVec 32 := Scalar.remsi v728 v730
  let c0_i32_528 : BitVec 32 := 0#32
  let v733 : BitVec 1 := Scalar.cmpi .slt v731 c0_i32_528
  let c0_i32_529 : BitVec 32 := 0#32
  let v734 : BitVec 1 := Scalar.cmpi .slt v730 c0_i32_529
  let v735 : BitVec 1 := Scalar.xori v733 v734
  let c0_i32_527 : BitVec 32 := 0#32
  let v732 : BitVec 1 := Scalar.cmpi .ne v731 c0_i32_527
  let v736 : BitVec 1 := Scalar.andi v735 v732
  let v737 : BitVec 32 := Scalar.addi v731 v730
  let v738 : BitVec 32 := Scalar.select v736 v737 v731
  let c1_i32_534 : BitVec 32 := 1#32
  let v740 : BitVec 32 := Scalar.muli v738 c1_i32_534
  let v741 : BitVec 32 := Scalar.addi c0_i32_535 v740
  v741.toNat
def k0_dev48 (d0 : Dev nD) : Nat :=
  let c0_i32_551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_539 : BitVec 32 := 17#32
  let v749 : BitVec 32 := Scalar.addi v2 c17_i32_539
  let c32_i32_540 : BitVec 32 := 32#32
  let c0_i32_541 : BitVec 32 := 0#32
  let v750 : BitVec 1 := Scalar.cmpi .eq c32_i32_540 c0_i32_541
  let c1_i32_542 : BitVec 32 := 1#32
  let v751 : BitVec 32 := Scalar.select v750 c1_i32_542 c32_i32_540
  let v752 : BitVec 32 := Scalar.remsi v749 v751
  let c0_i32_544 : BitVec 32 := 0#32
  let v754 : BitVec 1 := Scalar.cmpi .slt v752 c0_i32_544
  let c0_i32_545 : BitVec 32 := 0#32
  let v755 : BitVec 1 := Scalar.cmpi .slt v751 c0_i32_545
  let v756 : BitVec 1 := Scalar.xori v754 v755
  let c0_i32_543 : BitVec 32 := 0#32
  let v753 : BitVec 1 := Scalar.cmpi .ne v752 c0_i32_543
  let v757 : BitVec 1 := Scalar.andi v756 v753
  let v758 : BitVec 32 := Scalar.addi v752 v751
  let v759 : BitVec 32 := Scalar.select v757 v758 v752
  let c1_i32_550 : BitVec 32 := 1#32
  let v761 : BitVec 32 := Scalar.muli v759 c1_i32_550
  let v762 : BitVec 32 := Scalar.addi c0_i32_551 v761
  v762.toNat
def k0_dev49 (d0 : Dev nD) : Nat :=
  let c0_i32_567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_555 : BitVec 32 := 18#32
  let v770 : BitVec 32 := Scalar.addi v2 c18_i32_555
  let c32_i32_556 : BitVec 32 := 32#32
  let c0_i32_557 : BitVec 32 := 0#32
  let v771 : BitVec 1 := Scalar.cmpi .eq c32_i32_556 c0_i32_557
  let c1_i32_558 : BitVec 32 := 1#32
  let v772 : BitVec 32 := Scalar.select v771 c1_i32_558 c32_i32_556
  let v773 : BitVec 32 := Scalar.remsi v770 v772
  let c0_i32_560 : BitVec 32 := 0#32
  let v775 : BitVec 1 := Scalar.cmpi .slt v773 c0_i32_560
  let c0_i32_561 : BitVec 32 := 0#32
  let v776 : BitVec 1 := Scalar.cmpi .slt v772 c0_i32_561
  let v777 : BitVec 1 := Scalar.xori v775 v776
  let c0_i32_559 : BitVec 32 := 0#32
  let v774 : BitVec 1 := Scalar.cmpi .ne v773 c0_i32_559
  let v778 : BitVec 1 := Scalar.andi v777 v774
  let v779 : BitVec 32 := Scalar.addi v773 v772
  let v780 : BitVec 32 := Scalar.select v778 v779 v773
  let c1_i32_566 : BitVec 32 := 1#32
  let v782 : BitVec 32 := Scalar.muli v780 c1_i32_566
  let v783 : BitVec 32 := Scalar.addi c0_i32_567 v782
  v783.toNat
def k0_dev50 (d0 : Dev nD) : Nat :=
  let c0_i32_583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_571 : BitVec 32 := 19#32
  let v791 : BitVec 32 := Scalar.addi v2 c19_i32_571
  let c32_i32_572 : BitVec 32 := 32#32
  let c0_i32_573 : BitVec 32 := 0#32
  let v792 : BitVec 1 := Scalar.cmpi .eq c32_i32_572 c0_i32_573
  let c1_i32_574 : BitVec 32 := 1#32
  let v793 : BitVec 32 := Scalar.select v792 c1_i32_574 c32_i32_572
  let v794 : BitVec 32 := Scalar.remsi v791 v793
  let c0_i32_576 : BitVec 32 := 0#32
  let v796 : BitVec 1 := Scalar.cmpi .slt v794 c0_i32_576
  let c0_i32_577 : BitVec 32 := 0#32
  let v797 : BitVec 1 := Scalar.cmpi .slt v793 c0_i32_577
  let v798 : BitVec 1 := Scalar.xori v796 v797
  let c0_i32_575 : BitVec 32 := 0#32
  let v795 : BitVec 1 := Scalar.cmpi .ne v794 c0_i32_575
  let v799 : BitVec 1 := Scalar.andi v798 v795
  let v800 : BitVec 32 := Scalar.addi v794 v793
  let v801 : BitVec 32 := Scalar.select v799 v800 v794
  let c1_i32_582 : BitVec 32 := 1#32
  let v803 : BitVec 32 := Scalar.muli v801 c1_i32_582
  let v804 : BitVec 32 := Scalar.addi c0_i32_583 v803
  v804.toNat
def k0_dev51 (d0 : Dev nD) : Nat :=
  let c0_i32_599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_587 : BitVec 32 := 20#32
  let v812 : BitVec 32 := Scalar.addi v2 c20_i32_587
  let c32_i32_588 : BitVec 32 := 32#32
  let c0_i32_589 : BitVec 32 := 0#32
  let v813 : BitVec 1 := Scalar.cmpi .eq c32_i32_588 c0_i32_589
  let c1_i32_590 : BitVec 32 := 1#32
  let v814 : BitVec 32 := Scalar.select v813 c1_i32_590 c32_i32_588
  let v815 : BitVec 32 := Scalar.remsi v812 v814
  let c0_i32_592 : BitVec 32 := 0#32
  let v817 : BitVec 1 := Scalar.cmpi .slt v815 c0_i32_592
  let c0_i32_593 : BitVec 32 := 0#32
  let v818 : BitVec 1 := Scalar.cmpi .slt v814 c0_i32_593
  let v819 : BitVec 1 := Scalar.xori v817 v818
  let c0_i32_591 : BitVec 32 := 0#32
  let v816 : BitVec 1 := Scalar.cmpi .ne v815 c0_i32_591
  let v820 : BitVec 1 := Scalar.andi v819 v816
  let v821 : BitVec 32 := Scalar.addi v815 v814
  let v822 : BitVec 32 := Scalar.select v820 v821 v815
  let c1_i32_598 : BitVec 32 := 1#32
  let v824 : BitVec 32 := Scalar.muli v822 c1_i32_598
  let v825 : BitVec 32 := Scalar.addi c0_i32_599 v824
  v825.toNat
def k0_dev52 (d0 : Dev nD) : Nat :=
  let c0_i32_615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_603 : BitVec 32 := 21#32
  let v833 : BitVec 32 := Scalar.addi v2 c21_i32_603
  let c32_i32_604 : BitVec 32 := 32#32
  let c0_i32_605 : BitVec 32 := 0#32
  let v834 : BitVec 1 := Scalar.cmpi .eq c32_i32_604 c0_i32_605
  let c1_i32_606 : BitVec 32 := 1#32
  let v835 : BitVec 32 := Scalar.select v834 c1_i32_606 c32_i32_604
  let v836 : BitVec 32 := Scalar.remsi v833 v835
  let c0_i32_608 : BitVec 32 := 0#32
  let v838 : BitVec 1 := Scalar.cmpi .slt v836 c0_i32_608
  let c0_i32_609 : BitVec 32 := 0#32
  let v839 : BitVec 1 := Scalar.cmpi .slt v835 c0_i32_609
  let v840 : BitVec 1 := Scalar.xori v838 v839
  let c0_i32_607 : BitVec 32 := 0#32
  let v837 : BitVec 1 := Scalar.cmpi .ne v836 c0_i32_607
  let v841 : BitVec 1 := Scalar.andi v840 v837
  let v842 : BitVec 32 := Scalar.addi v836 v835
  let v843 : BitVec 32 := Scalar.select v841 v842 v836
  let c1_i32_614 : BitVec 32 := 1#32
  let v845 : BitVec 32 := Scalar.muli v843 c1_i32_614
  let v846 : BitVec 32 := Scalar.addi c0_i32_615 v845
  v846.toNat
def k0_dev53 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_619 : BitVec 32 := 22#32
  let v854 : BitVec 32 := Scalar.addi v2 c22_i32_619
  let c32_i32_620 : BitVec 32 := 32#32
  let c0_i32_621 : BitVec 32 := 0#32
  let v855 : BitVec 1 := Scalar.cmpi .eq c32_i32_620 c0_i32_621
  let c1_i32_622 : BitVec 32 := 1#32
  let v856 : BitVec 32 := Scalar.select v855 c1_i32_622 c32_i32_620
  let v857 : BitVec 32 := Scalar.remsi v854 v856
  let c0_i32_624 : BitVec 32 := 0#32
  let v859 : BitVec 1 := Scalar.cmpi .slt v857 c0_i32_624
  let c0_i32_625 : BitVec 32 := 0#32
  let v860 : BitVec 1 := Scalar.cmpi .slt v856 c0_i32_625
  let v861 : BitVec 1 := Scalar.xori v859 v860
  let c0_i32_623 : BitVec 32 := 0#32
  let v858 : BitVec 1 := Scalar.cmpi .ne v857 c0_i32_623
  let v862 : BitVec 1 := Scalar.andi v861 v858
  let v863 : BitVec 32 := Scalar.addi v857 v856
  let v864 : BitVec 32 := Scalar.select v862 v863 v857
  let c1_i32_630 : BitVec 32 := 1#32
  let v866 : BitVec 32 := Scalar.muli v864 c1_i32_630
  let v867 : BitVec 32 := Scalar.addi c0_i32_631 v866
  v867.toNat
def k0_dev54 (d0 : Dev nD) : Nat :=
  let c0_i32_647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_635 : BitVec 32 := 23#32
  let v875 : BitVec 32 := Scalar.addi v2 c23_i32_635
  let c32_i32_636 : BitVec 32 := 32#32
  let c0_i32_637 : BitVec 32 := 0#32
  let v876 : BitVec 1 := Scalar.cmpi .eq c32_i32_636 c0_i32_637
  let c1_i32_638 : BitVec 32 := 1#32
  let v877 : BitVec 32 := Scalar.select v876 c1_i32_638 c32_i32_636
  let v878 : BitVec 32 := Scalar.remsi v875 v877
  let c0_i32_640 : BitVec 32 := 0#32
  let v880 : BitVec 1 := Scalar.cmpi .slt v878 c0_i32_640
  let c0_i32_641 : BitVec 32 := 0#32
  let v881 : BitVec 1 := Scalar.cmpi .slt v877 c0_i32_641
  let v882 : BitVec 1 := Scalar.xori v880 v881
  let c0_i32_639 : BitVec 32 := 0#32
  let v879 : BitVec 1 := Scalar.cmpi .ne v878 c0_i32_639
  let v883 : BitVec 1 := Scalar.andi v882 v879
  let v884 : BitVec 32 := Scalar.addi v878 v877
  let v885 : BitVec 32 := Scalar.select v883 v884 v878
  let c1_i32_646 : BitVec 32 := 1#32
  let v887 : BitVec 32 := Scalar.muli v885 c1_i32_646
  let v888 : BitVec 32 := Scalar.addi c0_i32_647 v887
  v888.toNat
def k0_dev55 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_651 : BitVec 32 := 24#32
  let v896 : BitVec 32 := Scalar.addi v2 c24_i32_651
  let c32_i32_652 : BitVec 32 := 32#32
  let c0_i32_653 : BitVec 32 := 0#32
  let v897 : BitVec 1 := Scalar.cmpi .eq c32_i32_652 c0_i32_653
  let c1_i32_654 : BitVec 32 := 1#32
  let v898 : BitVec 32 := Scalar.select v897 c1_i32_654 c32_i32_652
  let v899 : BitVec 32 := Scalar.remsi v896 v898
  let c0_i32_656 : BitVec 32 := 0#32
  let v901 : BitVec 1 := Scalar.cmpi .slt v899 c0_i32_656
  let c0_i32_657 : BitVec 32 := 0#32
  let v902 : BitVec 1 := Scalar.cmpi .slt v898 c0_i32_657
  let v903 : BitVec 1 := Scalar.xori v901 v902
  let c0_i32_655 : BitVec 32 := 0#32
  let v900 : BitVec 1 := Scalar.cmpi .ne v899 c0_i32_655
  let v904 : BitVec 1 := Scalar.andi v903 v900
  let v905 : BitVec 32 := Scalar.addi v899 v898
  let v906 : BitVec 32 := Scalar.select v904 v905 v899
  let c1_i32_662 : BitVec 32 := 1#32
  let v908 : BitVec 32 := Scalar.muli v906 c1_i32_662
  let v909 : BitVec 32 := Scalar.addi c0_i32_663 v908
  v909.toNat
def k0_dev56 (d0 : Dev nD) : Nat :=
  let c0_i32_679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_667 : BitVec 32 := 25#32
  let v917 : BitVec 32 := Scalar.addi v2 c25_i32_667
  let c32_i32_668 : BitVec 32 := 32#32
  let c0_i32_669 : BitVec 32 := 0#32
  let v918 : BitVec 1 := Scalar.cmpi .eq c32_i32_668 c0_i32_669
  let c1_i32_670 : BitVec 32 := 1#32
  let v919 : BitVec 32 := Scalar.select v918 c1_i32_670 c32_i32_668
  let v920 : BitVec 32 := Scalar.remsi v917 v919
  let c0_i32_672 : BitVec 32 := 0#32
  let v922 : BitVec 1 := Scalar.cmpi .slt v920 c0_i32_672
  let c0_i32_673 : BitVec 32 := 0#32
  let v923 : BitVec 1 := Scalar.cmpi .slt v919 c0_i32_673
  let v924 : BitVec 1 := Scalar.xori v922 v923
  let c0_i32_671 : BitVec 32 := 0#32
  let v921 : BitVec 1 := Scalar.cmpi .ne v920 c0_i32_671
  let v925 : BitVec 1 := Scalar.andi v924 v921
  let v926 : BitVec 32 := Scalar.addi v920 v919
  let v927 : BitVec 32 := Scalar.select v925 v926 v920
  let c1_i32_678 : BitVec 32 := 1#32
  let v929 : BitVec 32 := Scalar.muli v927 c1_i32_678
  let v930 : BitVec 32 := Scalar.addi c0_i32_679 v929
  v930.toNat
def k0_dev57 (d0 : Dev nD) : Nat :=
  let c0_i32_695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_683 : BitVec 32 := 26#32
  let v938 : BitVec 32 := Scalar.addi v2 c26_i32_683
  let c32_i32_684 : BitVec 32 := 32#32
  let c0_i32_685 : BitVec 32 := 0#32
  let v939 : BitVec 1 := Scalar.cmpi .eq c32_i32_684 c0_i32_685
  let c1_i32_686 : BitVec 32 := 1#32
  let v940 : BitVec 32 := Scalar.select v939 c1_i32_686 c32_i32_684
  let v941 : BitVec 32 := Scalar.remsi v938 v940
  let c0_i32_688 : BitVec 32 := 0#32
  let v943 : BitVec 1 := Scalar.cmpi .slt v941 c0_i32_688
  let c0_i32_689 : BitVec 32 := 0#32
  let v944 : BitVec 1 := Scalar.cmpi .slt v940 c0_i32_689
  let v945 : BitVec 1 := Scalar.xori v943 v944
  let c0_i32_687 : BitVec 32 := 0#32
  let v942 : BitVec 1 := Scalar.cmpi .ne v941 c0_i32_687
  let v946 : BitVec 1 := Scalar.andi v945 v942
  let v947 : BitVec 32 := Scalar.addi v941 v940
  let v948 : BitVec 32 := Scalar.select v946 v947 v941
  let c1_i32_694 : BitVec 32 := 1#32
  let v950 : BitVec 32 := Scalar.muli v948 c1_i32_694
  let v951 : BitVec 32 := Scalar.addi c0_i32_695 v950
  v951.toNat
def k0_dev58 (d0 : Dev nD) : Nat :=
  let c0_i32_711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_699 : BitVec 32 := 27#32
  let v959 : BitVec 32 := Scalar.addi v2 c27_i32_699
  let c32_i32_700 : BitVec 32 := 32#32
  let c0_i32_701 : BitVec 32 := 0#32
  let v960 : BitVec 1 := Scalar.cmpi .eq c32_i32_700 c0_i32_701
  let c1_i32_702 : BitVec 32 := 1#32
  let v961 : BitVec 32 := Scalar.select v960 c1_i32_702 c32_i32_700
  let v962 : BitVec 32 := Scalar.remsi v959 v961
  let c0_i32_704 : BitVec 32 := 0#32
  let v964 : BitVec 1 := Scalar.cmpi .slt v962 c0_i32_704
  let c0_i32_705 : BitVec 32 := 0#32
  let v965 : BitVec 1 := Scalar.cmpi .slt v961 c0_i32_705
  let v966 : BitVec 1 := Scalar.xori v964 v965
  let c0_i32_703 : BitVec 32 := 0#32
  let v963 : BitVec 1 := Scalar.cmpi .ne v962 c0_i32_703
  let v967 : BitVec 1 := Scalar.andi v966 v963
  let v968 : BitVec 32 := Scalar.addi v962 v961
  let v969 : BitVec 32 := Scalar.select v967 v968 v962
  let c1_i32_710 : BitVec 32 := 1#32
  let v971 : BitVec 32 := Scalar.muli v969 c1_i32_710
  let v972 : BitVec 32 := Scalar.addi c0_i32_711 v971
  v972.toNat
def k0_dev59 (d0 : Dev nD) : Nat :=
  let c0_i32_727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_715 : BitVec 32 := 28#32
  let v980 : BitVec 32 := Scalar.addi v2 c28_i32_715
  let c32_i32_716 : BitVec 32 := 32#32
  let c0_i32_717 : BitVec 32 := 0#32
  let v981 : BitVec 1 := Scalar.cmpi .eq c32_i32_716 c0_i32_717
  let c1_i32_718 : BitVec 32 := 1#32
  let v982 : BitVec 32 := Scalar.select v981 c1_i32_718 c32_i32_716
  let v983 : BitVec 32 := Scalar.remsi v980 v982
  let c0_i32_720 : BitVec 32 := 0#32
  let v985 : BitVec 1 := Scalar.cmpi .slt v983 c0_i32_720
  let c0_i32_721 : BitVec 32 := 0#32
  let v986 : BitVec 1 := Scalar.cmpi .slt v982 c0_i32_721
  let v987 : BitVec 1 := Scalar.xori v985 v986
  let c0_i32_719 : BitVec 32 := 0#32
  let v984 : BitVec 1 := Scalar.cmpi .ne v983 c0_i32_719
  let v988 : BitVec 1 := Scalar.andi v987 v984
  let v989 : BitVec 32 := Scalar.addi v983 v982
  let v990 : BitVec 32 := Scalar.select v988 v989 v983
  let c1_i32_726 : BitVec 32 := 1#32
  let v992 : BitVec 32 := Scalar.muli v990 c1_i32_726
  let v993 : BitVec 32 := Scalar.addi c0_i32_727 v992
  v993.toNat
def k0_dev60 (d0 : Dev nD) : Nat :=
  let c0_i32_743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_731 : BitVec 32 := 29#32
  let v1001 : BitVec 32 := Scalar.addi v2 c29_i32_731
  let c32_i32_732 : BitVec 32 := 32#32
  let c0_i32_733 : BitVec 32 := 0#32
  let v1002 : BitVec 1 := Scalar.cmpi .eq c32_i32_732 c0_i32_733
  let c1_i32_734 : BitVec 32 := 1#32
  let v1003 : BitVec 32 := Scalar.select v1002 c1_i32_734 c32_i32_732
  let v1004 : BitVec 32 := Scalar.remsi v1001 v1003
  let c0_i32_736 : BitVec 32 := 0#32
  let v1006 : BitVec 1 := Scalar.cmpi .slt v1004 c0_i32_736
  let c0_i32_737 : BitVec 32 := 0#32
  let v1007 : BitVec 1 := Scalar.cmpi .slt v1003 c0_i32_737
  let v1008 : BitVec 1 := Scalar.xori v1006 v1007
  let c0_i32_735 : BitVec 32 := 0#32
  let v1005 : BitVec 1 := Scalar.cmpi .ne v1004 c0_i32_735
  let v1009 : BitVec 1 := Scalar.andi v1008 v1005
  let v1010 : BitVec 32 := Scalar.addi v1004 v1003
  let v1011 : BitVec 32 := Scalar.select v1009 v1010 v1004
  let c1_i32_742 : BitVec 32 := 1#32
  let v1013 : BitVec 32 := Scalar.muli v1011 c1_i32_742
  let v1014 : BitVec 32 := Scalar.addi c0_i32_743 v1013
  v1014.toNat
def k0_dev61 (d0 : Dev nD) : Nat :=
  let c0_i32_759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_747 : BitVec 32 := 30#32
  let v1022 : BitVec 32 := Scalar.addi v2 c30_i32_747
  let c32_i32_748 : BitVec 32 := 32#32
  let c0_i32_749 : BitVec 32 := 0#32
  let v1023 : BitVec 1 := Scalar.cmpi .eq c32_i32_748 c0_i32_749
  let c1_i32_750 : BitVec 32 := 1#32
  let v1024 : BitVec 32 := Scalar.select v1023 c1_i32_750 c32_i32_748
  let v1025 : BitVec 32 := Scalar.remsi v1022 v1024
  let c0_i32_752 : BitVec 32 := 0#32
  let v1027 : BitVec 1 := Scalar.cmpi .slt v1025 c0_i32_752
  let c0_i32_753 : BitVec 32 := 0#32
  let v1028 : BitVec 1 := Scalar.cmpi .slt v1024 c0_i32_753
  let v1029 : BitVec 1 := Scalar.xori v1027 v1028
  let c0_i32_751 : BitVec 32 := 0#32
  let v1026 : BitVec 1 := Scalar.cmpi .ne v1025 c0_i32_751
  let v1030 : BitVec 1 := Scalar.andi v1029 v1026
  let v1031 : BitVec 32 := Scalar.addi v1025 v1024
  let v1032 : BitVec 32 := Scalar.select v1030 v1031 v1025
  let c1_i32_758 : BitVec 32 := 1#32
  let v1034 : BitVec 32 := Scalar.muli v1032 c1_i32_758
  let v1035 : BitVec 32 := Scalar.addi c0_i32_759 v1034
  v1035.toNat
def k0_dev62 (d0 : Dev nD) : Nat :=
  let c0_i32_775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_763 : BitVec 32 := 31#32
  let v1043 : BitVec 32 := Scalar.addi v2 c31_i32_763
  let c32_i32_764 : BitVec 32 := 32#32
  let c0_i32_765 : BitVec 32 := 0#32
  let v1044 : BitVec 1 := Scalar.cmpi .eq c32_i32_764 c0_i32_765
  let c1_i32_766 : BitVec 32 := 1#32
  let v1045 : BitVec 32 := Scalar.select v1044 c1_i32_766 c32_i32_764
  let v1046 : BitVec 32 := Scalar.remsi v1043 v1045
  let c0_i32_768 : BitVec 32 := 0#32
  let v1048 : BitVec 1 := Scalar.cmpi .slt v1046 c0_i32_768
  let c0_i32_769 : BitVec 32 := 0#32
  let v1049 : BitVec 1 := Scalar.cmpi .slt v1045 c0_i32_769
  let v1050 : BitVec 1 := Scalar.xori v1048 v1049
  let c0_i32_767 : BitVec 32 := 0#32
  let v1047 : BitVec 1 := Scalar.cmpi .ne v1046 c0_i32_767
  let v1051 : BitVec 1 := Scalar.andi v1050 v1047
  let v1052 : BitVec 32 := Scalar.addi v1046 v1045
  let v1053 : BitVec 32 := Scalar.select v1051 v1052 v1046
  let c1_i32_774 : BitVec 32 := 1#32
  let v1055 : BitVec 32 := Scalar.muli v1053 c1_i32_774
  let v1056 : BitVec 32 := Scalar.addi c0_i32_775 v1055
  v1056.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1089 : BitVec 32 := 16#32
  let v1312 : BitVec 32 := Scalar.muli v2 c16_i32_1089
  let v1313 : Index := Scalar.indexCast v1312
  let c0_1090 : Index := 0#32
  ![v1313.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1107 : BitVec 32 := 16#32
  let v1342 : BitVec 32 := Scalar.muli v2 c16_i32_1107
  let c0_i32_1112 : BitVec 32 := 0#32
  ![v1342.toNat, 0]
def k0_dev63 (d0 : Dev nD) : Nat :=
  let c0_i32_1111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1099 : BitVec 32 := 1#32
  let v1330 : BitVec 32 := Scalar.addi v2 c1_i32_1099
  let c32_i32_1100 : BitVec 32 := 32#32
  let c0_i32_1101 : BitVec 32 := 0#32
  let v1331 : BitVec 1 := Scalar.cmpi .eq c32_i32_1100 c0_i32_1101
  let c1_i32_1102 : BitVec 32 := 1#32
  let v1332 : BitVec 32 := Scalar.select v1331 c1_i32_1102 c32_i32_1100
  let v1333 : BitVec 32 := Scalar.remsi v1330 v1332
  let c0_i32_1104 : BitVec 32 := 0#32
  let v1335 : BitVec 1 := Scalar.cmpi .slt v1333 c0_i32_1104
  let c0_i32_1105 : BitVec 32 := 0#32
  let v1336 : BitVec 1 := Scalar.cmpi .slt v1332 c0_i32_1105
  let v1337 : BitVec 1 := Scalar.xori v1335 v1336
  let c0_i32_1103 : BitVec 32 := 0#32
  let v1334 : BitVec 1 := Scalar.cmpi .ne v1333 c0_i32_1103
  let v1338 : BitVec 1 := Scalar.andi v1337 v1334
  let v1339 : BitVec 32 := Scalar.addi v1333 v1332
  let v1340 : BitVec 32 := Scalar.select v1338 v1339 v1333
  let c1_i32_1110 : BitVec 32 := 1#32
  let v1343 : BitVec 32 := Scalar.muli v1340 c1_i32_1110
  let v1344 : BitVec 32 := Scalar.addi c0_i32_1111 v1343
  v1344.toNat
def k0_dev64 (d0 : Dev nD) : Nat :=
  let c0_i32_1126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1114 : BitVec 32 := 2#32
  let v1351 : BitVec 32 := Scalar.addi v2 c2_i32_1114
  let c32_i32_1115 : BitVec 32 := 32#32
  let c0_i32_1116 : BitVec 32 := 0#32
  let v1352 : BitVec 1 := Scalar.cmpi .eq c32_i32_1115 c0_i32_1116
  let c1_i32_1117 : BitVec 32 := 1#32
  let v1353 : BitVec 32 := Scalar.select v1352 c1_i32_1117 c32_i32_1115
  let v1354 : BitVec 32 := Scalar.remsi v1351 v1353
  let c0_i32_1119 : BitVec 32 := 0#32
  let v1356 : BitVec 1 := Scalar.cmpi .slt v1354 c0_i32_1119
  let c0_i32_1120 : BitVec 32 := 0#32
  let v1357 : BitVec 1 := Scalar.cmpi .slt v1353 c0_i32_1120
  let v1358 : BitVec 1 := Scalar.xori v1356 v1357
  let c0_i32_1118 : BitVec 32 := 0#32
  let v1355 : BitVec 1 := Scalar.cmpi .ne v1354 c0_i32_1118
  let v1359 : BitVec 1 := Scalar.andi v1358 v1355
  let v1360 : BitVec 32 := Scalar.addi v1354 v1353
  let v1361 : BitVec 32 := Scalar.select v1359 v1360 v1354
  let c1_i32_1125 : BitVec 32 := 1#32
  let v1364 : BitVec 32 := Scalar.muli v1361 c1_i32_1125
  let v1365 : BitVec 32 := Scalar.addi c0_i32_1126 v1364
  v1365.toNat
def k0_dev65 (d0 : Dev nD) : Nat :=
  let c0_i32_1141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1129 : BitVec 32 := 3#32
  let v1372 : BitVec 32 := Scalar.addi v2 c3_i32_1129
  let c32_i32_1130 : BitVec 32 := 32#32
  let c0_i32_1131 : BitVec 32 := 0#32
  let v1373 : BitVec 1 := Scalar.cmpi .eq c32_i32_1130 c0_i32_1131
  let c1_i32_1132 : BitVec 32 := 1#32
  let v1374 : BitVec 32 := Scalar.select v1373 c1_i32_1132 c32_i32_1130
  let v1375 : BitVec 32 := Scalar.remsi v1372 v1374
  let c0_i32_1134 : BitVec 32 := 0#32
  let v1377 : BitVec 1 := Scalar.cmpi .slt v1375 c0_i32_1134
  let c0_i32_1135 : BitVec 32 := 0#32
  let v1378 : BitVec 1 := Scalar.cmpi .slt v1374 c0_i32_1135
  let v1379 : BitVec 1 := Scalar.xori v1377 v1378
  let c0_i32_1133 : BitVec 32 := 0#32
  let v1376 : BitVec 1 := Scalar.cmpi .ne v1375 c0_i32_1133
  let v1380 : BitVec 1 := Scalar.andi v1379 v1376
  let v1381 : BitVec 32 := Scalar.addi v1375 v1374
  let v1382 : BitVec 32 := Scalar.select v1380 v1381 v1375
  let c1_i32_1140 : BitVec 32 := 1#32
  let v1385 : BitVec 32 := Scalar.muli v1382 c1_i32_1140
  let v1386 : BitVec 32 := Scalar.addi c0_i32_1141 v1385
  v1386.toNat
def k0_dev66 (d0 : Dev nD) : Nat :=
  let c0_i32_1156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1144 : BitVec 32 := 4#32
  let v1393 : BitVec 32 := Scalar.addi v2 c4_i32_1144
  let c32_i32_1145 : BitVec 32 := 32#32
  let c0_i32_1146 : BitVec 32 := 0#32
  let v1394 : BitVec 1 := Scalar.cmpi .eq c32_i32_1145 c0_i32_1146
  let c1_i32_1147 : BitVec 32 := 1#32
  let v1395 : BitVec 32 := Scalar.select v1394 c1_i32_1147 c32_i32_1145
  let v1396 : BitVec 32 := Scalar.remsi v1393 v1395
  let c0_i32_1149 : BitVec 32 := 0#32
  let v1398 : BitVec 1 := Scalar.cmpi .slt v1396 c0_i32_1149
  let c0_i32_1150 : BitVec 32 := 0#32
  let v1399 : BitVec 1 := Scalar.cmpi .slt v1395 c0_i32_1150
  let v1400 : BitVec 1 := Scalar.xori v1398 v1399
  let c0_i32_1148 : BitVec 32 := 0#32
  let v1397 : BitVec 1 := Scalar.cmpi .ne v1396 c0_i32_1148
  let v1401 : BitVec 1 := Scalar.andi v1400 v1397
  let v1402 : BitVec 32 := Scalar.addi v1396 v1395
  let v1403 : BitVec 32 := Scalar.select v1401 v1402 v1396
  let c1_i32_1155 : BitVec 32 := 1#32
  let v1406 : BitVec 32 := Scalar.muli v1403 c1_i32_1155
  let v1407 : BitVec 32 := Scalar.addi c0_i32_1156 v1406
  v1407.toNat
def k0_dev67 (d0 : Dev nD) : Nat :=
  let c0_i32_1171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1159 : BitVec 32 := 5#32
  let v1414 : BitVec 32 := Scalar.addi v2 c5_i32_1159
  let c32_i32_1160 : BitVec 32 := 32#32
  let c0_i32_1161 : BitVec 32 := 0#32
  let v1415 : BitVec 1 := Scalar.cmpi .eq c32_i32_1160 c0_i32_1161
  let c1_i32_1162 : BitVec 32 := 1#32
  let v1416 : BitVec 32 := Scalar.select v1415 c1_i32_1162 c32_i32_1160
  let v1417 : BitVec 32 := Scalar.remsi v1414 v1416
  let c0_i32_1164 : BitVec 32 := 0#32
  let v1419 : BitVec 1 := Scalar.cmpi .slt v1417 c0_i32_1164
  let c0_i32_1165 : BitVec 32 := 0#32
  let v1420 : BitVec 1 := Scalar.cmpi .slt v1416 c0_i32_1165
  let v1421 : BitVec 1 := Scalar.xori v1419 v1420
  let c0_i32_1163 : BitVec 32 := 0#32
  let v1418 : BitVec 1 := Scalar.cmpi .ne v1417 c0_i32_1163
  let v1422 : BitVec 1 := Scalar.andi v1421 v1418
  let v1423 : BitVec 32 := Scalar.addi v1417 v1416
  let v1424 : BitVec 32 := Scalar.select v1422 v1423 v1417
  let c1_i32_1170 : BitVec 32 := 1#32
  let v1427 : BitVec 32 := Scalar.muli v1424 c1_i32_1170
  let v1428 : BitVec 32 := Scalar.addi c0_i32_1171 v1427
  v1428.toNat
def k0_dev68 (d0 : Dev nD) : Nat :=
  let c0_i32_1186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1174 : BitVec 32 := 6#32
  let v1435 : BitVec 32 := Scalar.addi v2 c6_i32_1174
  let c32_i32_1175 : BitVec 32 := 32#32
  let c0_i32_1176 : BitVec 32 := 0#32
  let v1436 : BitVec 1 := Scalar.cmpi .eq c32_i32_1175 c0_i32_1176
  let c1_i32_1177 : BitVec 32 := 1#32
  let v1437 : BitVec 32 := Scalar.select v1436 c1_i32_1177 c32_i32_1175
  let v1438 : BitVec 32 := Scalar.remsi v1435 v1437
  let c0_i32_1179 : BitVec 32 := 0#32
  let v1440 : BitVec 1 := Scalar.cmpi .slt v1438 c0_i32_1179
  let c0_i32_1180 : BitVec 32 := 0#32
  let v1441 : BitVec 1 := Scalar.cmpi .slt v1437 c0_i32_1180
  let v1442 : BitVec 1 := Scalar.xori v1440 v1441
  let c0_i32_1178 : BitVec 32 := 0#32
  let v1439 : BitVec 1 := Scalar.cmpi .ne v1438 c0_i32_1178
  let v1443 : BitVec 1 := Scalar.andi v1442 v1439
  let v1444 : BitVec 32 := Scalar.addi v1438 v1437
  let v1445 : BitVec 32 := Scalar.select v1443 v1444 v1438
  let c1_i32_1185 : BitVec 32 := 1#32
  let v1448 : BitVec 32 := Scalar.muli v1445 c1_i32_1185
  let v1449 : BitVec 32 := Scalar.addi c0_i32_1186 v1448
  v1449.toNat
def k0_dev69 (d0 : Dev nD) : Nat :=
  let c0_i32_1201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1189 : BitVec 32 := 7#32
  let v1456 : BitVec 32 := Scalar.addi v2 c7_i32_1189
  let c32_i32_1190 : BitVec 32 := 32#32
  let c0_i32_1191 : BitVec 32 := 0#32
  let v1457 : BitVec 1 := Scalar.cmpi .eq c32_i32_1190 c0_i32_1191
  let c1_i32_1192 : BitVec 32 := 1#32
  let v1458 : BitVec 32 := Scalar.select v1457 c1_i32_1192 c32_i32_1190
  let v1459 : BitVec 32 := Scalar.remsi v1456 v1458
  let c0_i32_1194 : BitVec 32 := 0#32
  let v1461 : BitVec 1 := Scalar.cmpi .slt v1459 c0_i32_1194
  let c0_i32_1195 : BitVec 32 := 0#32
  let v1462 : BitVec 1 := Scalar.cmpi .slt v1458 c0_i32_1195
  let v1463 : BitVec 1 := Scalar.xori v1461 v1462
  let c0_i32_1193 : BitVec 32 := 0#32
  let v1460 : BitVec 1 := Scalar.cmpi .ne v1459 c0_i32_1193
  let v1464 : BitVec 1 := Scalar.andi v1463 v1460
  let v1465 : BitVec 32 := Scalar.addi v1459 v1458
  let v1466 : BitVec 32 := Scalar.select v1464 v1465 v1459
  let c1_i32_1200 : BitVec 32 := 1#32
  let v1469 : BitVec 32 := Scalar.muli v1466 c1_i32_1200
  let v1470 : BitVec 32 := Scalar.addi c0_i32_1201 v1469
  v1470.toNat
def k0_dev70 (d0 : Dev nD) : Nat :=
  let c0_i32_1216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1204 : BitVec 32 := 8#32
  let v1477 : BitVec 32 := Scalar.addi v2 c8_i32_1204
  let c32_i32_1205 : BitVec 32 := 32#32
  let c0_i32_1206 : BitVec 32 := 0#32
  let v1478 : BitVec 1 := Scalar.cmpi .eq c32_i32_1205 c0_i32_1206
  let c1_i32_1207 : BitVec 32 := 1#32
  let v1479 : BitVec 32 := Scalar.select v1478 c1_i32_1207 c32_i32_1205
  let v1480 : BitVec 32 := Scalar.remsi v1477 v1479
  let c0_i32_1209 : BitVec 32 := 0#32
  let v1482 : BitVec 1 := Scalar.cmpi .slt v1480 c0_i32_1209
  let c0_i32_1210 : BitVec 32 := 0#32
  let v1483 : BitVec 1 := Scalar.cmpi .slt v1479 c0_i32_1210
  let v1484 : BitVec 1 := Scalar.xori v1482 v1483
  let c0_i32_1208 : BitVec 32 := 0#32
  let v1481 : BitVec 1 := Scalar.cmpi .ne v1480 c0_i32_1208
  let v1485 : BitVec 1 := Scalar.andi v1484 v1481
  let v1486 : BitVec 32 := Scalar.addi v1480 v1479
  let v1487 : BitVec 32 := Scalar.select v1485 v1486 v1480
  let c1_i32_1215 : BitVec 32 := 1#32
  let v1490 : BitVec 32 := Scalar.muli v1487 c1_i32_1215
  let v1491 : BitVec 32 := Scalar.addi c0_i32_1216 v1490
  v1491.toNat
def k0_dev71 (d0 : Dev nD) : Nat :=
  let c0_i32_1231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1219 : BitVec 32 := 9#32
  let v1498 : BitVec 32 := Scalar.addi v2 c9_i32_1219
  let c32_i32_1220 : BitVec 32 := 32#32
  let c0_i32_1221 : BitVec 32 := 0#32
  let v1499 : BitVec 1 := Scalar.cmpi .eq c32_i32_1220 c0_i32_1221
  let c1_i32_1222 : BitVec 32 := 1#32
  let v1500 : BitVec 32 := Scalar.select v1499 c1_i32_1222 c32_i32_1220
  let v1501 : BitVec 32 := Scalar.remsi v1498 v1500
  let c0_i32_1224 : BitVec 32 := 0#32
  let v1503 : BitVec 1 := Scalar.cmpi .slt v1501 c0_i32_1224
  let c0_i32_1225 : BitVec 32 := 0#32
  let v1504 : BitVec 1 := Scalar.cmpi .slt v1500 c0_i32_1225
  let v1505 : BitVec 1 := Scalar.xori v1503 v1504
  let c0_i32_1223 : BitVec 32 := 0#32
  let v1502 : BitVec 1 := Scalar.cmpi .ne v1501 c0_i32_1223
  let v1506 : BitVec 1 := Scalar.andi v1505 v1502
  let v1507 : BitVec 32 := Scalar.addi v1501 v1500
  let v1508 : BitVec 32 := Scalar.select v1506 v1507 v1501
  let c1_i32_1230 : BitVec 32 := 1#32
  let v1511 : BitVec 32 := Scalar.muli v1508 c1_i32_1230
  let v1512 : BitVec 32 := Scalar.addi c0_i32_1231 v1511
  v1512.toNat
def k0_dev72 (d0 : Dev nD) : Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1234 : BitVec 32 := 10#32
  let v1519 : BitVec 32 := Scalar.addi v2 c10_i32_1234
  let c32_i32_1235 : BitVec 32 := 32#32
  let c0_i32_1236 : BitVec 32 := 0#32
  let v1520 : BitVec 1 := Scalar.cmpi .eq c32_i32_1235 c0_i32_1236
  let c1_i32_1237 : BitVec 32 := 1#32
  let v1521 : BitVec 32 := Scalar.select v1520 c1_i32_1237 c32_i32_1235
  let v1522 : BitVec 32 := Scalar.remsi v1519 v1521
  let c0_i32_1239 : BitVec 32 := 0#32
  let v1524 : BitVec 1 := Scalar.cmpi .slt v1522 c0_i32_1239
  let c0_i32_1240 : BitVec 32 := 0#32
  let v1525 : BitVec 1 := Scalar.cmpi .slt v1521 c0_i32_1240
  let v1526 : BitVec 1 := Scalar.xori v1524 v1525
  let c0_i32_1238 : BitVec 32 := 0#32
  let v1523 : BitVec 1 := Scalar.cmpi .ne v1522 c0_i32_1238
  let v1527 : BitVec 1 := Scalar.andi v1526 v1523
  let v1528 : BitVec 32 := Scalar.addi v1522 v1521
  let v1529 : BitVec 32 := Scalar.select v1527 v1528 v1522
  let c1_i32_1245 : BitVec 32 := 1#32
  let v1532 : BitVec 32 := Scalar.muli v1529 c1_i32_1245
  let v1533 : BitVec 32 := Scalar.addi c0_i32_1246 v1532
  v1533.toNat
def k0_dev73 (d0 : Dev nD) : Nat :=
  let c0_i32_1261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1249 : BitVec 32 := 11#32
  let v1540 : BitVec 32 := Scalar.addi v2 c11_i32_1249
  let c32_i32_1250 : BitVec 32 := 32#32
  let c0_i32_1251 : BitVec 32 := 0#32
  let v1541 : BitVec 1 := Scalar.cmpi .eq c32_i32_1250 c0_i32_1251
  let c1_i32_1252 : BitVec 32 := 1#32
  let v1542 : BitVec 32 := Scalar.select v1541 c1_i32_1252 c32_i32_1250
  let v1543 : BitVec 32 := Scalar.remsi v1540 v1542
  let c0_i32_1254 : BitVec 32 := 0#32
  let v1545 : BitVec 1 := Scalar.cmpi .slt v1543 c0_i32_1254
  let c0_i32_1255 : BitVec 32 := 0#32
  let v1546 : BitVec 1 := Scalar.cmpi .slt v1542 c0_i32_1255
  let v1547 : BitVec 1 := Scalar.xori v1545 v1546
  let c0_i32_1253 : BitVec 32 := 0#32
  let v1544 : BitVec 1 := Scalar.cmpi .ne v1543 c0_i32_1253
  let v1548 : BitVec 1 := Scalar.andi v1547 v1544
  let v1549 : BitVec 32 := Scalar.addi v1543 v1542
  let v1550 : BitVec 32 := Scalar.select v1548 v1549 v1543
  let c1_i32_1260 : BitVec 32 := 1#32
  let v1553 : BitVec 32 := Scalar.muli v1550 c1_i32_1260
  let v1554 : BitVec 32 := Scalar.addi c0_i32_1261 v1553
  v1554.toNat
def k0_dev74 (d0 : Dev nD) : Nat :=
  let c0_i32_1276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1264 : BitVec 32 := 12#32
  let v1561 : BitVec 32 := Scalar.addi v2 c12_i32_1264
  let c32_i32_1265 : BitVec 32 := 32#32
  let c0_i32_1266 : BitVec 32 := 0#32
  let v1562 : BitVec 1 := Scalar.cmpi .eq c32_i32_1265 c0_i32_1266
  let c1_i32_1267 : BitVec 32 := 1#32
  let v1563 : BitVec 32 := Scalar.select v1562 c1_i32_1267 c32_i32_1265
  let v1564 : BitVec 32 := Scalar.remsi v1561 v1563
  let c0_i32_1269 : BitVec 32 := 0#32
  let v1566 : BitVec 1 := Scalar.cmpi .slt v1564 c0_i32_1269
  let c0_i32_1270 : BitVec 32 := 0#32
  let v1567 : BitVec 1 := Scalar.cmpi .slt v1563 c0_i32_1270
  let v1568 : BitVec 1 := Scalar.xori v1566 v1567
  let c0_i32_1268 : BitVec 32 := 0#32
  let v1565 : BitVec 1 := Scalar.cmpi .ne v1564 c0_i32_1268
  let v1569 : BitVec 1 := Scalar.andi v1568 v1565
  let v1570 : BitVec 32 := Scalar.addi v1564 v1563
  let v1571 : BitVec 32 := Scalar.select v1569 v1570 v1564
  let c1_i32_1275 : BitVec 32 := 1#32
  let v1574 : BitVec 32 := Scalar.muli v1571 c1_i32_1275
  let v1575 : BitVec 32 := Scalar.addi c0_i32_1276 v1574
  v1575.toNat
def k0_dev75 (d0 : Dev nD) : Nat :=
  let c0_i32_1291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1279 : BitVec 32 := 13#32
  let v1582 : BitVec 32 := Scalar.addi v2 c13_i32_1279
  let c32_i32_1280 : BitVec 32 := 32#32
  let c0_i32_1281 : BitVec 32 := 0#32
  let v1583 : BitVec 1 := Scalar.cmpi .eq c32_i32_1280 c0_i32_1281
  let c1_i32_1282 : BitVec 32 := 1#32
  let v1584 : BitVec 32 := Scalar.select v1583 c1_i32_1282 c32_i32_1280
  let v1585 : BitVec 32 := Scalar.remsi v1582 v1584
  let c0_i32_1284 : BitVec 32 := 0#32
  let v1587 : BitVec 1 := Scalar.cmpi .slt v1585 c0_i32_1284
  let c0_i32_1285 : BitVec 32 := 0#32
  let v1588 : BitVec 1 := Scalar.cmpi .slt v1584 c0_i32_1285
  let v1589 : BitVec 1 := Scalar.xori v1587 v1588
  let c0_i32_1283 : BitVec 32 := 0#32
  let v1586 : BitVec 1 := Scalar.cmpi .ne v1585 c0_i32_1283
  let v1590 : BitVec 1 := Scalar.andi v1589 v1586
  let v1591 : BitVec 32 := Scalar.addi v1585 v1584
  let v1592 : BitVec 32 := Scalar.select v1590 v1591 v1585
  let c1_i32_1290 : BitVec 32 := 1#32
  let v1595 : BitVec 32 := Scalar.muli v1592 c1_i32_1290
  let v1596 : BitVec 32 := Scalar.addi c0_i32_1291 v1595
  v1596.toNat
def k0_dev76 (d0 : Dev nD) : Nat :=
  let c0_i32_1306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1294 : BitVec 32 := 14#32
  let v1603 : BitVec 32 := Scalar.addi v2 c14_i32_1294
  let c32_i32_1295 : BitVec 32 := 32#32
  let c0_i32_1296 : BitVec 32 := 0#32
  let v1604 : BitVec 1 := Scalar.cmpi .eq c32_i32_1295 c0_i32_1296
  let c1_i32_1297 : BitVec 32 := 1#32
  let v1605 : BitVec 32 := Scalar.select v1604 c1_i32_1297 c32_i32_1295
  let v1606 : BitVec 32 := Scalar.remsi v1603 v1605
  let c0_i32_1299 : BitVec 32 := 0#32
  let v1608 : BitVec 1 := Scalar.cmpi .slt v1606 c0_i32_1299
  let c0_i32_1300 : BitVec 32 := 0#32
  let v1609 : BitVec 1 := Scalar.cmpi .slt v1605 c0_i32_1300
  let v1610 : BitVec 1 := Scalar.xori v1608 v1609
  let c0_i32_1298 : BitVec 32 := 0#32
  let v1607 : BitVec 1 := Scalar.cmpi .ne v1606 c0_i32_1298
  let v1611 : BitVec 1 := Scalar.andi v1610 v1607
  let v1612 : BitVec 32 := Scalar.addi v1606 v1605
  let v1613 : BitVec 32 := Scalar.select v1611 v1612 v1606
  let c1_i32_1305 : BitVec 32 := 1#32
  let v1616 : BitVec 32 := Scalar.muli v1613 c1_i32_1305
  let v1617 : BitVec 32 := Scalar.addi c0_i32_1306 v1616
  v1617.toNat
def k0_dev77 (d0 : Dev nD) : Nat :=
  let c0_i32_1321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1309 : BitVec 32 := 15#32
  let v1624 : BitVec 32 := Scalar.addi v2 c15_i32_1309
  let c32_i32_1310 : BitVec 32 := 32#32
  let c0_i32_1311 : BitVec 32 := 0#32
  let v1625 : BitVec 1 := Scalar.cmpi .eq c32_i32_1310 c0_i32_1311
  let c1_i32_1312 : BitVec 32 := 1#32
  let v1626 : BitVec 32 := Scalar.select v1625 c1_i32_1312 c32_i32_1310
  let v1627 : BitVec 32 := Scalar.remsi v1624 v1626
  let c0_i32_1314 : BitVec 32 := 0#32
  let v1629 : BitVec 1 := Scalar.cmpi .slt v1627 c0_i32_1314
  let c0_i32_1315 : BitVec 32 := 0#32
  let v1630 : BitVec 1 := Scalar.cmpi .slt v1626 c0_i32_1315
  let v1631 : BitVec 1 := Scalar.xori v1629 v1630
  let c0_i32_1313 : BitVec 32 := 0#32
  let v1628 : BitVec 1 := Scalar.cmpi .ne v1627 c0_i32_1313
  let v1632 : BitVec 1 := Scalar.andi v1631 v1628
  let v1633 : BitVec 32 := Scalar.addi v1627 v1626
  let v1634 : BitVec 32 := Scalar.select v1632 v1633 v1627
  let c1_i32_1320 : BitVec 32 := 1#32
  let v1637 : BitVec 32 := Scalar.muli v1634 c1_i32_1320
  let v1638 : BitVec 32 := Scalar.addi c0_i32_1321 v1637
  v1638.toNat
def k0_dev78 (d0 : Dev nD) : Nat :=
  let c0_i32_1336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1324 : BitVec 32 := 16#32
  let v1645 : BitVec 32 := Scalar.addi v2 c16_i32_1324
  let c32_i32_1325 : BitVec 32 := 32#32
  let c0_i32_1326 : BitVec 32 := 0#32
  let v1646 : BitVec 1 := Scalar.cmpi .eq c32_i32_1325 c0_i32_1326
  let c1_i32_1327 : BitVec 32 := 1#32
  let v1647 : BitVec 32 := Scalar.select v1646 c1_i32_1327 c32_i32_1325
  let v1648 : BitVec 32 := Scalar.remsi v1645 v1647
  let c0_i32_1329 : BitVec 32 := 0#32
  let v1650 : BitVec 1 := Scalar.cmpi .slt v1648 c0_i32_1329
  let c0_i32_1330 : BitVec 32 := 0#32
  let v1651 : BitVec 1 := Scalar.cmpi .slt v1647 c0_i32_1330
  let v1652 : BitVec 1 := Scalar.xori v1650 v1651
  let c0_i32_1328 : BitVec 32 := 0#32
  let v1649 : BitVec 1 := Scalar.cmpi .ne v1648 c0_i32_1328
  let v1653 : BitVec 1 := Scalar.andi v1652 v1649
  let v1654 : BitVec 32 := Scalar.addi v1648 v1647
  let v1655 : BitVec 32 := Scalar.select v1653 v1654 v1648
  let c1_i32_1335 : BitVec 32 := 1#32
  let v1658 : BitVec 32 := Scalar.muli v1655 c1_i32_1335
  let v1659 : BitVec 32 := Scalar.addi c0_i32_1336 v1658
  v1659.toNat
def k0_dev79 (d0 : Dev nD) : Nat :=
  let c0_i32_1351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1339 : BitVec 32 := 17#32
  let v1666 : BitVec 32 := Scalar.addi v2 c17_i32_1339
  let c32_i32_1340 : BitVec 32 := 32#32
  let c0_i32_1341 : BitVec 32 := 0#32
  let v1667 : BitVec 1 := Scalar.cmpi .eq c32_i32_1340 c0_i32_1341
  let c1_i32_1342 : BitVec 32 := 1#32
  let v1668 : BitVec 32 := Scalar.select v1667 c1_i32_1342 c32_i32_1340
  let v1669 : BitVec 32 := Scalar.remsi v1666 v1668
  let c0_i32_1344 : BitVec 32 := 0#32
  let v1671 : BitVec 1 := Scalar.cmpi .slt v1669 c0_i32_1344
  let c0_i32_1345 : BitVec 32 := 0#32
  let v1672 : BitVec 1 := Scalar.cmpi .slt v1668 c0_i32_1345
  let v1673 : BitVec 1 := Scalar.xori v1671 v1672
  let c0_i32_1343 : BitVec 32 := 0#32
  let v1670 : BitVec 1 := Scalar.cmpi .ne v1669 c0_i32_1343
  let v1674 : BitVec 1 := Scalar.andi v1673 v1670
  let v1675 : BitVec 32 := Scalar.addi v1669 v1668
  let v1676 : BitVec 32 := Scalar.select v1674 v1675 v1669
  let c1_i32_1350 : BitVec 32 := 1#32
  let v1679 : BitVec 32 := Scalar.muli v1676 c1_i32_1350
  let v1680 : BitVec 32 := Scalar.addi c0_i32_1351 v1679
  v1680.toNat
def k0_dev80 (d0 : Dev nD) : Nat :=
  let c0_i32_1366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1354 : BitVec 32 := 18#32
  let v1687 : BitVec 32 := Scalar.addi v2 c18_i32_1354
  let c32_i32_1355 : BitVec 32 := 32#32
  let c0_i32_1356 : BitVec 32 := 0#32
  let v1688 : BitVec 1 := Scalar.cmpi .eq c32_i32_1355 c0_i32_1356
  let c1_i32_1357 : BitVec 32 := 1#32
  let v1689 : BitVec 32 := Scalar.select v1688 c1_i32_1357 c32_i32_1355
  let v1690 : BitVec 32 := Scalar.remsi v1687 v1689
  let c0_i32_1359 : BitVec 32 := 0#32
  let v1692 : BitVec 1 := Scalar.cmpi .slt v1690 c0_i32_1359
  let c0_i32_1360 : BitVec 32 := 0#32
  let v1693 : BitVec 1 := Scalar.cmpi .slt v1689 c0_i32_1360
  let v1694 : BitVec 1 := Scalar.xori v1692 v1693
  let c0_i32_1358 : BitVec 32 := 0#32
  let v1691 : BitVec 1 := Scalar.cmpi .ne v1690 c0_i32_1358
  let v1695 : BitVec 1 := Scalar.andi v1694 v1691
  let v1696 : BitVec 32 := Scalar.addi v1690 v1689
  let v1697 : BitVec 32 := Scalar.select v1695 v1696 v1690
  let c1_i32_1365 : BitVec 32 := 1#32
  let v1700 : BitVec 32 := Scalar.muli v1697 c1_i32_1365
  let v1701 : BitVec 32 := Scalar.addi c0_i32_1366 v1700
  v1701.toNat
def k0_dev81 (d0 : Dev nD) : Nat :=
  let c0_i32_1381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1369 : BitVec 32 := 19#32
  let v1708 : BitVec 32 := Scalar.addi v2 c19_i32_1369
  let c32_i32_1370 : BitVec 32 := 32#32
  let c0_i32_1371 : BitVec 32 := 0#32
  let v1709 : BitVec 1 := Scalar.cmpi .eq c32_i32_1370 c0_i32_1371
  let c1_i32_1372 : BitVec 32 := 1#32
  let v1710 : BitVec 32 := Scalar.select v1709 c1_i32_1372 c32_i32_1370
  let v1711 : BitVec 32 := Scalar.remsi v1708 v1710
  let c0_i32_1374 : BitVec 32 := 0#32
  let v1713 : BitVec 1 := Scalar.cmpi .slt v1711 c0_i32_1374
  let c0_i32_1375 : BitVec 32 := 0#32
  let v1714 : BitVec 1 := Scalar.cmpi .slt v1710 c0_i32_1375
  let v1715 : BitVec 1 := Scalar.xori v1713 v1714
  let c0_i32_1373 : BitVec 32 := 0#32
  let v1712 : BitVec 1 := Scalar.cmpi .ne v1711 c0_i32_1373
  let v1716 : BitVec 1 := Scalar.andi v1715 v1712
  let v1717 : BitVec 32 := Scalar.addi v1711 v1710
  let v1718 : BitVec 32 := Scalar.select v1716 v1717 v1711
  let c1_i32_1380 : BitVec 32 := 1#32
  let v1721 : BitVec 32 := Scalar.muli v1718 c1_i32_1380
  let v1722 : BitVec 32 := Scalar.addi c0_i32_1381 v1721
  v1722.toNat
def k0_dev82 (d0 : Dev nD) : Nat :=
  let c0_i32_1396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1384 : BitVec 32 := 20#32
  let v1729 : BitVec 32 := Scalar.addi v2 c20_i32_1384
  let c32_i32_1385 : BitVec 32 := 32#32
  let c0_i32_1386 : BitVec 32 := 0#32
  let v1730 : BitVec 1 := Scalar.cmpi .eq c32_i32_1385 c0_i32_1386
  let c1_i32_1387 : BitVec 32 := 1#32
  let v1731 : BitVec 32 := Scalar.select v1730 c1_i32_1387 c32_i32_1385
  let v1732 : BitVec 32 := Scalar.remsi v1729 v1731
  let c0_i32_1389 : BitVec 32 := 0#32
  let v1734 : BitVec 1 := Scalar.cmpi .slt v1732 c0_i32_1389
  let c0_i32_1390 : BitVec 32 := 0#32
  let v1735 : BitVec 1 := Scalar.cmpi .slt v1731 c0_i32_1390
  let v1736 : BitVec 1 := Scalar.xori v1734 v1735
  let c0_i32_1388 : BitVec 32 := 0#32
  let v1733 : BitVec 1 := Scalar.cmpi .ne v1732 c0_i32_1388
  let v1737 : BitVec 1 := Scalar.andi v1736 v1733
  let v1738 : BitVec 32 := Scalar.addi v1732 v1731
  let v1739 : BitVec 32 := Scalar.select v1737 v1738 v1732
  let c1_i32_1395 : BitVec 32 := 1#32
  let v1742 : BitVec 32 := Scalar.muli v1739 c1_i32_1395
  let v1743 : BitVec 32 := Scalar.addi c0_i32_1396 v1742
  v1743.toNat
def k0_dev83 (d0 : Dev nD) : Nat :=
  let c0_i32_1411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1399 : BitVec 32 := 21#32
  let v1750 : BitVec 32 := Scalar.addi v2 c21_i32_1399
  let c32_i32_1400 : BitVec 32 := 32#32
  let c0_i32_1401 : BitVec 32 := 0#32
  let v1751 : BitVec 1 := Scalar.cmpi .eq c32_i32_1400 c0_i32_1401
  let c1_i32_1402 : BitVec 32 := 1#32
  let v1752 : BitVec 32 := Scalar.select v1751 c1_i32_1402 c32_i32_1400
  let v1753 : BitVec 32 := Scalar.remsi v1750 v1752
  let c0_i32_1404 : BitVec 32 := 0#32
  let v1755 : BitVec 1 := Scalar.cmpi .slt v1753 c0_i32_1404
  let c0_i32_1405 : BitVec 32 := 0#32
  let v1756 : BitVec 1 := Scalar.cmpi .slt v1752 c0_i32_1405
  let v1757 : BitVec 1 := Scalar.xori v1755 v1756
  let c0_i32_1403 : BitVec 32 := 0#32
  let v1754 : BitVec 1 := Scalar.cmpi .ne v1753 c0_i32_1403
  let v1758 : BitVec 1 := Scalar.andi v1757 v1754
  let v1759 : BitVec 32 := Scalar.addi v1753 v1752
  let v1760 : BitVec 32 := Scalar.select v1758 v1759 v1753
  let c1_i32_1410 : BitVec 32 := 1#32
  let v1763 : BitVec 32 := Scalar.muli v1760 c1_i32_1410
  let v1764 : BitVec 32 := Scalar.addi c0_i32_1411 v1763
  v1764.toNat
def k0_dev84 (d0 : Dev nD) : Nat :=
  let c0_i32_1426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1414 : BitVec 32 := 22#32
  let v1771 : BitVec 32 := Scalar.addi v2 c22_i32_1414
  let c32_i32_1415 : BitVec 32 := 32#32
  let c0_i32_1416 : BitVec 32 := 0#32
  let v1772 : BitVec 1 := Scalar.cmpi .eq c32_i32_1415 c0_i32_1416
  let c1_i32_1417 : BitVec 32 := 1#32
  let v1773 : BitVec 32 := Scalar.select v1772 c1_i32_1417 c32_i32_1415
  let v1774 : BitVec 32 := Scalar.remsi v1771 v1773
  let c0_i32_1419 : BitVec 32 := 0#32
  let v1776 : BitVec 1 := Scalar.cmpi .slt v1774 c0_i32_1419
  let c0_i32_1420 : BitVec 32 := 0#32
  let v1777 : BitVec 1 := Scalar.cmpi .slt v1773 c0_i32_1420
  let v1778 : BitVec 1 := Scalar.xori v1776 v1777
  let c0_i32_1418 : BitVec 32 := 0#32
  let v1775 : BitVec 1 := Scalar.cmpi .ne v1774 c0_i32_1418
  let v1779 : BitVec 1 := Scalar.andi v1778 v1775
  let v1780 : BitVec 32 := Scalar.addi v1774 v1773
  let v1781 : BitVec 32 := Scalar.select v1779 v1780 v1774
  let c1_i32_1425 : BitVec 32 := 1#32
  let v1784 : BitVec 32 := Scalar.muli v1781 c1_i32_1425
  let v1785 : BitVec 32 := Scalar.addi c0_i32_1426 v1784
  v1785.toNat
def k0_dev85 (d0 : Dev nD) : Nat :=
  let c0_i32_1441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1429 : BitVec 32 := 23#32
  let v1792 : BitVec 32 := Scalar.addi v2 c23_i32_1429
  let c32_i32_1430 : BitVec 32 := 32#32
  let c0_i32_1431 : BitVec 32 := 0#32
  let v1793 : BitVec 1 := Scalar.cmpi .eq c32_i32_1430 c0_i32_1431
  let c1_i32_1432 : BitVec 32 := 1#32
  let v1794 : BitVec 32 := Scalar.select v1793 c1_i32_1432 c32_i32_1430
  let v1795 : BitVec 32 := Scalar.remsi v1792 v1794
  let c0_i32_1434 : BitVec 32 := 0#32
  let v1797 : BitVec 1 := Scalar.cmpi .slt v1795 c0_i32_1434
  let c0_i32_1435 : BitVec 32 := 0#32
  let v1798 : BitVec 1 := Scalar.cmpi .slt v1794 c0_i32_1435
  let v1799 : BitVec 1 := Scalar.xori v1797 v1798
  let c0_i32_1433 : BitVec 32 := 0#32
  let v1796 : BitVec 1 := Scalar.cmpi .ne v1795 c0_i32_1433
  let v1800 : BitVec 1 := Scalar.andi v1799 v1796
  let v1801 : BitVec 32 := Scalar.addi v1795 v1794
  let v1802 : BitVec 32 := Scalar.select v1800 v1801 v1795
  let c1_i32_1440 : BitVec 32 := 1#32
  let v1805 : BitVec 32 := Scalar.muli v1802 c1_i32_1440
  let v1806 : BitVec 32 := Scalar.addi c0_i32_1441 v1805
  v1806.toNat
def k0_dev86 (d0 : Dev nD) : Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1444 : BitVec 32 := 24#32
  let v1813 : BitVec 32 := Scalar.addi v2 c24_i32_1444
  let c32_i32_1445 : BitVec 32 := 32#32
  let c0_i32_1446 : BitVec 32 := 0#32
  let v1814 : BitVec 1 := Scalar.cmpi .eq c32_i32_1445 c0_i32_1446
  let c1_i32_1447 : BitVec 32 := 1#32
  let v1815 : BitVec 32 := Scalar.select v1814 c1_i32_1447 c32_i32_1445
  let v1816 : BitVec 32 := Scalar.remsi v1813 v1815
  let c0_i32_1449 : BitVec 32 := 0#32
  let v1818 : BitVec 1 := Scalar.cmpi .slt v1816 c0_i32_1449
  let c0_i32_1450 : BitVec 32 := 0#32
  let v1819 : BitVec 1 := Scalar.cmpi .slt v1815 c0_i32_1450
  let v1820 : BitVec 1 := Scalar.xori v1818 v1819
  let c0_i32_1448 : BitVec 32 := 0#32
  let v1817 : BitVec 1 := Scalar.cmpi .ne v1816 c0_i32_1448
  let v1821 : BitVec 1 := Scalar.andi v1820 v1817
  let v1822 : BitVec 32 := Scalar.addi v1816 v1815
  let v1823 : BitVec 32 := Scalar.select v1821 v1822 v1816
  let c1_i32_1455 : BitVec 32 := 1#32
  let v1826 : BitVec 32 := Scalar.muli v1823 c1_i32_1455
  let v1827 : BitVec 32 := Scalar.addi c0_i32_1456 v1826
  v1827.toNat
def k0_dev87 (d0 : Dev nD) : Nat :=
  let c0_i32_1471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1459 : BitVec 32 := 25#32
  let v1834 : BitVec 32 := Scalar.addi v2 c25_i32_1459
  let c32_i32_1460 : BitVec 32 := 32#32
  let c0_i32_1461 : BitVec 32 := 0#32
  let v1835 : BitVec 1 := Scalar.cmpi .eq c32_i32_1460 c0_i32_1461
  let c1_i32_1462 : BitVec 32 := 1#32
  let v1836 : BitVec 32 := Scalar.select v1835 c1_i32_1462 c32_i32_1460
  let v1837 : BitVec 32 := Scalar.remsi v1834 v1836
  let c0_i32_1464 : BitVec 32 := 0#32
  let v1839 : BitVec 1 := Scalar.cmpi .slt v1837 c0_i32_1464
  let c0_i32_1465 : BitVec 32 := 0#32
  let v1840 : BitVec 1 := Scalar.cmpi .slt v1836 c0_i32_1465
  let v1841 : BitVec 1 := Scalar.xori v1839 v1840
  let c0_i32_1463 : BitVec 32 := 0#32
  let v1838 : BitVec 1 := Scalar.cmpi .ne v1837 c0_i32_1463
  let v1842 : BitVec 1 := Scalar.andi v1841 v1838
  let v1843 : BitVec 32 := Scalar.addi v1837 v1836
  let v1844 : BitVec 32 := Scalar.select v1842 v1843 v1837
  let c1_i32_1470 : BitVec 32 := 1#32
  let v1847 : BitVec 32 := Scalar.muli v1844 c1_i32_1470
  let v1848 : BitVec 32 := Scalar.addi c0_i32_1471 v1847
  v1848.toNat
def k0_dev88 (d0 : Dev nD) : Nat :=
  let c0_i32_1486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1474 : BitVec 32 := 26#32
  let v1855 : BitVec 32 := Scalar.addi v2 c26_i32_1474
  let c32_i32_1475 : BitVec 32 := 32#32
  let c0_i32_1476 : BitVec 32 := 0#32
  let v1856 : BitVec 1 := Scalar.cmpi .eq c32_i32_1475 c0_i32_1476
  let c1_i32_1477 : BitVec 32 := 1#32
  let v1857 : BitVec 32 := Scalar.select v1856 c1_i32_1477 c32_i32_1475
  let v1858 : BitVec 32 := Scalar.remsi v1855 v1857
  let c0_i32_1479 : BitVec 32 := 0#32
  let v1860 : BitVec 1 := Scalar.cmpi .slt v1858 c0_i32_1479
  let c0_i32_1480 : BitVec 32 := 0#32
  let v1861 : BitVec 1 := Scalar.cmpi .slt v1857 c0_i32_1480
  let v1862 : BitVec 1 := Scalar.xori v1860 v1861
  let c0_i32_1478 : BitVec 32 := 0#32
  let v1859 : BitVec 1 := Scalar.cmpi .ne v1858 c0_i32_1478
  let v1863 : BitVec 1 := Scalar.andi v1862 v1859
  let v1864 : BitVec 32 := Scalar.addi v1858 v1857
  let v1865 : BitVec 32 := Scalar.select v1863 v1864 v1858
  let c1_i32_1485 : BitVec 32 := 1#32
  let v1868 : BitVec 32 := Scalar.muli v1865 c1_i32_1485
  let v1869 : BitVec 32 := Scalar.addi c0_i32_1486 v1868
  v1869.toNat
def k0_dev89 (d0 : Dev nD) : Nat :=
  let c0_i32_1501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1489 : BitVec 32 := 27#32
  let v1876 : BitVec 32 := Scalar.addi v2 c27_i32_1489
  let c32_i32_1490 : BitVec 32 := 32#32
  let c0_i32_1491 : BitVec 32 := 0#32
  let v1877 : BitVec 1 := Scalar.cmpi .eq c32_i32_1490 c0_i32_1491
  let c1_i32_1492 : BitVec 32 := 1#32
  let v1878 : BitVec 32 := Scalar.select v1877 c1_i32_1492 c32_i32_1490
  let v1879 : BitVec 32 := Scalar.remsi v1876 v1878
  let c0_i32_1494 : BitVec 32 := 0#32
  let v1881 : BitVec 1 := Scalar.cmpi .slt v1879 c0_i32_1494
  let c0_i32_1495 : BitVec 32 := 0#32
  let v1882 : BitVec 1 := Scalar.cmpi .slt v1878 c0_i32_1495
  let v1883 : BitVec 1 := Scalar.xori v1881 v1882
  let c0_i32_1493 : BitVec 32 := 0#32
  let v1880 : BitVec 1 := Scalar.cmpi .ne v1879 c0_i32_1493
  let v1884 : BitVec 1 := Scalar.andi v1883 v1880
  let v1885 : BitVec 32 := Scalar.addi v1879 v1878
  let v1886 : BitVec 32 := Scalar.select v1884 v1885 v1879
  let c1_i32_1500 : BitVec 32 := 1#32
  let v1889 : BitVec 32 := Scalar.muli v1886 c1_i32_1500
  let v1890 : BitVec 32 := Scalar.addi c0_i32_1501 v1889
  v1890.toNat
def k0_dev90 (d0 : Dev nD) : Nat :=
  let c0_i32_1516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1504 : BitVec 32 := 28#32
  let v1897 : BitVec 32 := Scalar.addi v2 c28_i32_1504
  let c32_i32_1505 : BitVec 32 := 32#32
  let c0_i32_1506 : BitVec 32 := 0#32
  let v1898 : BitVec 1 := Scalar.cmpi .eq c32_i32_1505 c0_i32_1506
  let c1_i32_1507 : BitVec 32 := 1#32
  let v1899 : BitVec 32 := Scalar.select v1898 c1_i32_1507 c32_i32_1505
  let v1900 : BitVec 32 := Scalar.remsi v1897 v1899
  let c0_i32_1509 : BitVec 32 := 0#32
  let v1902 : BitVec 1 := Scalar.cmpi .slt v1900 c0_i32_1509
  let c0_i32_1510 : BitVec 32 := 0#32
  let v1903 : BitVec 1 := Scalar.cmpi .slt v1899 c0_i32_1510
  let v1904 : BitVec 1 := Scalar.xori v1902 v1903
  let c0_i32_1508 : BitVec 32 := 0#32
  let v1901 : BitVec 1 := Scalar.cmpi .ne v1900 c0_i32_1508
  let v1905 : BitVec 1 := Scalar.andi v1904 v1901
  let v1906 : BitVec 32 := Scalar.addi v1900 v1899
  let v1907 : BitVec 32 := Scalar.select v1905 v1906 v1900
  let c1_i32_1515 : BitVec 32 := 1#32
  let v1910 : BitVec 32 := Scalar.muli v1907 c1_i32_1515
  let v1911 : BitVec 32 := Scalar.addi c0_i32_1516 v1910
  v1911.toNat
def k0_dev91 (d0 : Dev nD) : Nat :=
  let c0_i32_1531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1519 : BitVec 32 := 29#32
  let v1918 : BitVec 32 := Scalar.addi v2 c29_i32_1519
  let c32_i32_1520 : BitVec 32 := 32#32
  let c0_i32_1521 : BitVec 32 := 0#32
  let v1919 : BitVec 1 := Scalar.cmpi .eq c32_i32_1520 c0_i32_1521
  let c1_i32_1522 : BitVec 32 := 1#32
  let v1920 : BitVec 32 := Scalar.select v1919 c1_i32_1522 c32_i32_1520
  let v1921 : BitVec 32 := Scalar.remsi v1918 v1920
  let c0_i32_1524 : BitVec 32 := 0#32
  let v1923 : BitVec 1 := Scalar.cmpi .slt v1921 c0_i32_1524
  let c0_i32_1525 : BitVec 32 := 0#32
  let v1924 : BitVec 1 := Scalar.cmpi .slt v1920 c0_i32_1525
  let v1925 : BitVec 1 := Scalar.xori v1923 v1924
  let c0_i32_1523 : BitVec 32 := 0#32
  let v1922 : BitVec 1 := Scalar.cmpi .ne v1921 c0_i32_1523
  let v1926 : BitVec 1 := Scalar.andi v1925 v1922
  let v1927 : BitVec 32 := Scalar.addi v1921 v1920
  let v1928 : BitVec 32 := Scalar.select v1926 v1927 v1921
  let c1_i32_1530 : BitVec 32 := 1#32
  let v1931 : BitVec 32 := Scalar.muli v1928 c1_i32_1530
  let v1932 : BitVec 32 := Scalar.addi c0_i32_1531 v1931
  v1932.toNat
def k0_dev92 (d0 : Dev nD) : Nat :=
  let c0_i32_1546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1534 : BitVec 32 := 30#32
  let v1939 : BitVec 32 := Scalar.addi v2 c30_i32_1534
  let c32_i32_1535 : BitVec 32 := 32#32
  let c0_i32_1536 : BitVec 32 := 0#32
  let v1940 : BitVec 1 := Scalar.cmpi .eq c32_i32_1535 c0_i32_1536
  let c1_i32_1537 : BitVec 32 := 1#32
  let v1941 : BitVec 32 := Scalar.select v1940 c1_i32_1537 c32_i32_1535
  let v1942 : BitVec 32 := Scalar.remsi v1939 v1941
  let c0_i32_1539 : BitVec 32 := 0#32
  let v1944 : BitVec 1 := Scalar.cmpi .slt v1942 c0_i32_1539
  let c0_i32_1540 : BitVec 32 := 0#32
  let v1945 : BitVec 1 := Scalar.cmpi .slt v1941 c0_i32_1540
  let v1946 : BitVec 1 := Scalar.xori v1944 v1945
  let c0_i32_1538 : BitVec 32 := 0#32
  let v1943 : BitVec 1 := Scalar.cmpi .ne v1942 c0_i32_1538
  let v1947 : BitVec 1 := Scalar.andi v1946 v1943
  let v1948 : BitVec 32 := Scalar.addi v1942 v1941
  let v1949 : BitVec 32 := Scalar.select v1947 v1948 v1942
  let c1_i32_1545 : BitVec 32 := 1#32
  let v1952 : BitVec 32 := Scalar.muli v1949 c1_i32_1545
  let v1953 : BitVec 32 := Scalar.addi c0_i32_1546 v1952
  v1953.toNat
def k0_dev93 (d0 : Dev nD) : Nat :=
  let c0_i32_1561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1549 : BitVec 32 := 31#32
  let v1960 : BitVec 32 := Scalar.addi v2 c31_i32_1549
  let c32_i32_1550 : BitVec 32 := 32#32
  let c0_i32_1551 : BitVec 32 := 0#32
  let v1961 : BitVec 1 := Scalar.cmpi .eq c32_i32_1550 c0_i32_1551
  let c1_i32_1552 : BitVec 32 := 1#32
  let v1962 : BitVec 32 := Scalar.select v1961 c1_i32_1552 c32_i32_1550
  let v1963 : BitVec 32 := Scalar.remsi v1960 v1962
  let c0_i32_1554 : BitVec 32 := 0#32
  let v1965 : BitVec 1 := Scalar.cmpi .slt v1963 c0_i32_1554
  let c0_i32_1555 : BitVec 32 := 0#32
  let v1966 : BitVec 1 := Scalar.cmpi .slt v1962 c0_i32_1555
  let v1967 : BitVec 1 := Scalar.xori v1965 v1966
  let c0_i32_1553 : BitVec 32 := 0#32
  let v1964 : BitVec 1 := Scalar.cmpi .ne v1963 c0_i32_1553
  let v1968 : BitVec 1 := Scalar.andi v1967 v1964
  let v1969 : BitVec 32 := Scalar.addi v1963 v1962
  let v1970 : BitVec 32 := Scalar.select v1968 v1969 v1963
  let c1_i32_1560 : BitVec 32 := 1#32
  let v1973 : BitVec 32 := Scalar.muli v1970 c1_i32_1560
  let v1974 : BitVec 32 := Scalar.addi c0_i32_1561 v1973
  v1974.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x256x512 : Shape := ⟨3, ![2, 256, 512]⟩
abbrev S512x8192 : Shape := ⟨2, ![512, 8192]⟩
abbrev S2x256x128x64 : Shape := ⟨4, ![2, 256, 128, 64]⟩
abbrev S8192x512 : Shape := ⟨2, ![8192, 512]⟩
abbrev S2x256x8192 : Shape := ⟨3, ![2, 256, 8192]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x128x256x256 : Shape := ⟨4, ![2, 128, 256, 256]⟩
abbrev S1x1x256x256 : Shape := ⟨4, ![1, 1, 256, 256]⟩
abbrev S2x128x256 : Shape := ⟨3, ![2, 128, 256]⟩
abbrev S2x128x256x1 : Shape := ⟨4, ![2, 128, 256, 1]⟩
abbrev S1x1x256x1 : Shape := ⟨4, ![1, 1, 256, 1]⟩
abbrev S2x128x64x256 : Shape := ⟨4, ![2, 128, 64, 256]⟩

abbrev nBuf : Space → Nat
  | .hbm => 126
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x8192, .bf16⟩
  | .hbm, ⟨2, _⟩ => ⟨S2x256x128x64, .bf16⟩
  | .hbm, ⟨3, _⟩ => ⟨S2x256x128x64, .bf16⟩
  | .hbm, ⟨4, _⟩ => ⟨S8192x512, .bf16⟩
  | .hbm, ⟨5, _⟩ => ⟨S2x256x8192, .f32⟩
  | .hbm, ⟨6, _⟩ => ⟨S2x256x8192, .bf16⟩
  | .hbm, ⟨7, _⟩ => ⟨S2x256x128x64, .bf16⟩
  | .hbm, ⟨8, _⟩ => ⟨S256, .i32⟩
  | .hbm, ⟨9, _⟩ => ⟨S_, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S256, .i32⟩
  | .hbm, ⟨29, _⟩ => ⟨S_, .i32⟩
  | .hbm, ⟨30, _⟩ => ⟨S_, .i32⟩
  | .hbm, ⟨31, _⟩ => ⟨S256, .i32⟩
  | .hbm, ⟨32, _⟩ => ⟨S256, .i32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S256, .i1⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S256, .i32⟩
  | .hbm, ⟨47, _⟩ => ⟨S1x256, .i32⟩
  | .hbm, ⟨48, _⟩ => ⟨S256x256, .i32⟩
  | .hbm, ⟨49, _⟩ => ⟨S256x256, .i32⟩
  | .hbm, ⟨50, _⟩ => ⟨S256x256, .i1⟩
  | .hbm, ⟨51, _⟩ => ⟨S_, .i32⟩
  | .hbm, ⟨52, _⟩ => ⟨S1x256, .i32⟩
  | .hbm, ⟨53, _⟩ => ⟨S1x256, .i1⟩
  | .hbm, ⟨54, _⟩ => ⟨S256x256, .i1⟩
  | .hbm, ⟨55, _⟩ => ⟨S256x256, .i1⟩
  | .hbm, ⟨56, _⟩ => ⟨S256x256, .i32⟩
  | .hbm, ⟨57, _⟩ => ⟨S256x256, .i32⟩
  | .hbm, ⟨58, _⟩ => ⟨S256x256, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S256x256, .i32⟩
  | .hbm, ⟨66, _⟩ => ⟨S256x256, .i32⟩
  | .hbm, ⟨67, _⟩ => ⟨S_, .i32⟩
  | .hbm, ⟨68, _⟩ => ⟨S256x256, .i32⟩
  | .hbm, ⟨69, _⟩ => ⟨S256x256, .i1⟩
  | .hbm, ⟨70, _⟩ => ⟨S_, .i32⟩
  | .hbm, ⟨71, _⟩ => ⟨S256x256, .i32⟩
  | .hbm, ⟨72, _⟩ => ⟨S256x256, .i1⟩
  | .hbm, ⟨73, _⟩ => ⟨S_, .i32⟩
  | .hbm, ⟨74, _⟩ => ⟨S_, .i1⟩
  | .hbm, ⟨75, _⟩ => ⟨S256x256, .i1⟩
  | .hbm, ⟨76, _⟩ => ⟨S256x256, .i1⟩
  | .hbm, ⟨77, _⟩ => ⟨S256x256, .i1⟩
  | .hbm, ⟨78, _⟩ => ⟨S256x256, .i32⟩
  | .hbm, ⟨79, _⟩ => ⟨S256x256, .i32⟩
  | .hbm, ⟨80, _⟩ => ⟨S256x256, .i32⟩
  | .hbm, ⟨81, _⟩ => ⟨S_, .i32⟩
  | .hbm, ⟨82, _⟩ => ⟨S256x256, .i32⟩
  | .hbm, ⟨83, _⟩ => ⟨S256x256, .i1⟩
  | .hbm, ⟨84, _⟩ => ⟨S256x256, .i1⟩
  | .hbm, ⟨85, _⟩ => ⟨S2x128x256x256, .f32⟩
  | .hbm, ⟨86, _⟩ => ⟨S2x128x256x256, .bf16⟩
  | .hbm, ⟨87, _⟩ => ⟨S2x128x256x256, .f32⟩
  | .hbm, ⟨88, _⟩ => ⟨S_, .f32⟩
  | .hbm, ⟨89, _⟩ => ⟨S2x128x256x256, .f32⟩
  | .hbm, ⟨90, _⟩ => ⟨S2x128x256x256, .f32⟩
  | .hbm, ⟨91, _⟩ => ⟨S1x1x256x256, .i1⟩
  | .hbm, ⟨92, _⟩ => ⟨S_, .f32⟩
  | .hbm, ⟨93, _⟩ => ⟨S_, .f32⟩
  | .hbm, ⟨94, _⟩ => ⟨S2x128x256x256, .i1⟩
  | .hbm, ⟨95, _⟩ => ⟨S2x128x256x256, .f32⟩
  | .hbm, ⟨96, _⟩ => ⟨S2x128x256x256, .f32⟩
  | .hbm, ⟨97, _⟩ => ⟨S_, .f32⟩
  | .hbm, ⟨98, _⟩ => ⟨S2x128x256, .f32⟩
  | .hbm, ⟨99, _⟩ => ⟨S2x128x256x1, .f32⟩
  | .hbm, ⟨100, _⟩ => ⟨S2x128x256x256, .f32⟩
  | .hbm, ⟨101, _⟩ => ⟨S2x128x256x256, .f32⟩
  | .hbm, ⟨102, _⟩ => ⟨S2x128x256x256, .f32⟩
  | .hbm, ⟨103, _⟩ => ⟨S_, .i1⟩
  | .hbm, ⟨104, _⟩ => ⟨S256, .i1⟩
  | .hbm, ⟨105, _⟩ => ⟨S1x1x256x1, .i1⟩
  | .hbm, ⟨106, _⟩ => ⟨S_, .f32⟩
  | .hbm, ⟨107, _⟩ => ⟨S2x128x256, .f32⟩
  | .hbm, ⟨108, _⟩ => ⟨S2x128x256x1, .f32⟩
  | .hbm, ⟨109, _⟩ => ⟨S_, .f32⟩
  | .hbm, ⟨110, _⟩ => ⟨S_, .f32⟩
  | .hbm, ⟨111, _⟩ => ⟨S2x128x256x1, .i1⟩
  | .hbm, ⟨112, _⟩ => ⟨S2x128x256x1, .f32⟩
  | .hbm, ⟨113, _⟩ => ⟨S2x128x256x1, .f32⟩
  | .hbm, ⟨114, _⟩ => ⟨S2x128x256x256, .f32⟩
  | .hbm, ⟨115, _⟩ => ⟨S2x128x256x256, .f32⟩
  | .hbm, ⟨116, _⟩ => ⟨S1x1x256x1, .i1⟩
  | .hbm, ⟨117, _⟩ => ⟨S_, .f32⟩
  | .hbm, ⟨118, _⟩ => ⟨S_, .f32⟩
  | .hbm, ⟨119, _⟩ => ⟨S2x128x256x256, .i1⟩
  | .hbm, ⟨120, _⟩ => ⟨S2x128x256x256, .f32⟩
  | .hbm, ⟨121, _⟩ => ⟨S2x128x256x256, .f32⟩
  | .hbm, ⟨122, _⟩ => ⟨S2x128x64x256, .f32⟩
  | .hbm, ⟨123, _⟩ => ⟨S2x256x128x64, .f32⟩
  | .hbm, ⟨124, _⟩ => ⟨S2x256x8192, .f32⟩
  | .hbm, ⟨125, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩

abbrev nD : Nat := 1
abbrev τ : Topo := Topo.v7x

variable {F : FTy → Type} [FloatOps F]
-- ==== Proof.Loops.lean ====
/-
The kernel's body as seven loops over the thirty-one other devices.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen

open Idealize.ShloMosaic
open Idealize.ShloMosaic.TcCoe
open Idealize.SL Idealize.SL.Sem

variable {F : FTy → Type} [FloatOps F]

/-- The device `r + 1` places after `c`, around. -/
def sh (c : Dev nD) (r : Fin 31) : Dev nD := ⟨(c.val + (r.val + 1)) % 32, Nat.mod_lt _ (by decide)⟩

theorem sh_rev (c : Dev nD) (r : Fin 31) : sh (sh c r) r.rev = c := by revert r c; decide +kernel
theorem sh_rev' (c : Dev nD) (r : Fin 31) : sh (sh c r.rev) r = c := by revert r c; decide +kernel

/-- The device that the signal number `r` names. -/
def sigDev (d : Dev nD) : Fin 31 → Dev nD
  | 0 => ⟨k0_dev1 d, k0_dev1_lt d⟩
  | 1 => ⟨k0_dev2 d, k0_dev2_lt d⟩
  | 2 => ⟨k0_dev3 d, k0_dev3_lt d⟩
  | 3 => ⟨k0_dev4 d, k0_dev4_lt d⟩
  | 4 => ⟨k0_dev5 d, k0_dev5_lt d⟩
  | 5 => ⟨k0_dev6 d, k0_dev6_lt d⟩
  | 6 => ⟨k0_dev7 d, k0_dev7_lt d⟩
  | 7 => ⟨k0_dev8 d, k0_dev8_lt d⟩
  | 8 => ⟨k0_dev9 d, k0_dev9_lt d⟩
  | 9 => ⟨k0_dev10 d, k0_dev10_lt d⟩
  | 10 => ⟨k0_dev11 d, k0_dev11_lt d⟩
  | 11 => ⟨k0_dev12 d, k0_dev12_lt d⟩
  | 12 => ⟨k0_dev13 d, k0_dev13_lt d⟩
  | 13 => ⟨k0_dev14 d, k0_dev14_lt d⟩
  | 14 => ⟨k0_dev15 d, k0_dev15_lt d⟩
  | 15 => ⟨k0_dev16 d, k0_dev16_lt d⟩
  | 16 => ⟨k0_dev17 d, k0_dev17_lt d⟩
  | 17 => ⟨k0_dev18 d, k0_dev18_lt d⟩
  | 18 => ⟨k0_dev19 d, k0_dev19_lt d⟩
  | 19 => ⟨k0_dev20 d, k0_dev20_lt d⟩
  | 20 => ⟨k0_dev21 d, k0_dev21_lt d⟩
  | 21 => ⟨k0_dev22 d, k0_dev22_lt d⟩
  | 22 => ⟨k0_dev23 d, k0_dev23_lt d⟩
  | 23 => ⟨k0_dev24 d, k0_dev24_lt d⟩
  | 24 => ⟨k0_dev25 d, k0_dev25_lt d⟩
  | 25 => ⟨k0_dev26 d, k0_dev26_lt d⟩
  | 26 => ⟨k0_dev27 d, k0_dev27_lt d⟩
  | 27 => ⟨k0_dev28 d, k0_dev28_lt d⟩
  | 28 => ⟨k0_dev29 d, k0_dev29_lt d⟩
  | 29 => ⟨k0_dev30 d, k0_dev30_lt d⟩
  | 30 => ⟨k0_dev31 d, k0_dev31_lt d⟩
  | ⟨n + 31, h⟩ => absurd h (by omega)

theorem sigDev_eq : ∀ (r : Fin 31) (d : Dev nD), sigDev d r = sh d r := by decide +kernel

/-- The device that the first exchange's transfer number `r` names. -/
def rsDev (d : Dev nD) : Fin 31 → Dev nD
  | 0 => ⟨k0_dev32 d, k0_dev32_lt d⟩
  | 1 => ⟨k0_dev33 d, k0_dev33_lt d⟩
  | 2 => ⟨k0_dev34 d, k0_dev34_lt d⟩
  | 3 => ⟨k0_dev35 d, k0_dev35_lt d⟩
  | 4 => ⟨k0_dev36 d, k0_dev36_lt d⟩
  | 5 => ⟨k0_dev37 d, k0_dev37_lt d⟩
  | 6 => ⟨k0_dev38 d, k0_dev38_lt d⟩
  | 7 => ⟨k0_dev39 d, k0_dev39_lt d⟩
  | 8 => ⟨k0_dev40 d, k0_dev40_lt d⟩
  | 9 => ⟨k0_dev41 d, k0_dev41_lt d⟩
  | 10 => ⟨k0_dev42 d, k0_dev42_lt d⟩
  | 11 => ⟨k0_dev43 d, k0_dev43_lt d⟩
  | 12 => ⟨k0_dev44 d, k0_dev44_lt d⟩
  | 13 => ⟨k0_dev45 d, k0_dev45_lt d⟩
  | 14 => ⟨k0_dev46 d, k0_dev46_lt d⟩
  | 15 => ⟨k0_dev47 d, k0_dev47_lt d⟩
  | 16 => ⟨k0_dev48 d, k0_dev48_lt d⟩
  | 17 => ⟨k0_dev49 d, k0_dev49_lt d⟩
  | 18 => ⟨k0_dev50 d, k0_dev50_lt d⟩
  | 19 => ⟨k0_dev51 d, k0_dev51_lt d⟩
  | 20 => ⟨k0_dev52 d, k0_dev52_lt d⟩
  | 21 => ⟨k0_dev53 d, k0_dev53_lt d⟩
  | 22 => ⟨k0_dev54 d, k0_dev54_lt d⟩
  | 23 => ⟨k0_dev55 d, k0_dev55_lt d⟩
  | 24 => ⟨k0_dev56 d, k0_dev56_lt d⟩
  | 25 => ⟨k0_dev57 d, k0_dev57_lt d⟩
  | 26 => ⟨k0_dev58 d, k0_dev58_lt d⟩
  | 27 => ⟨k0_dev59 d, k0_dev59_lt d⟩
  | 28 => ⟨k0_dev60 d, k0_dev60_lt d⟩
  | 29 => ⟨k0_dev61 d, k0_dev61_lt d⟩
  | 30 => ⟨k0_dev62 d, k0_dev62_lt d⟩
  | ⟨n + 31, h⟩ => absurd h (by omega)

theorem rsDev_eq : ∀ (r : Fin 31) (d : Dev nD), rsDev d r = sh d r := by decide +kernel

/-- The device that the second exchange's transfer number `r` names. -/
def agDev (d : Dev nD) : Fin 31 → Dev nD
  | 0 => ⟨k0_dev63 d, k0_dev63_lt d⟩
  | 1 => ⟨k0_dev64 d, k0_dev64_lt d⟩
  | 2 => ⟨k0_dev65 d, k0_dev65_lt d⟩
  | 3 => ⟨k0_dev66 d, k0_dev66_lt d⟩
  | 4 => ⟨k0_dev67 d, k0_dev67_lt d⟩
  | 5 => ⟨k0_dev68 d, k0_dev68_lt d⟩
  | 6 => ⟨k0_dev69 d, k0_dev69_lt d⟩
  | 7 => ⟨k0_dev70 d, k0_dev70_lt d⟩
  | 8 => ⟨k0_dev71 d, k0_dev71_lt d⟩
  | 9 => ⟨k0_dev72 d, k0_dev72_lt d⟩
  | 10 => ⟨k0_dev73 d, k0_dev73_lt d⟩
  | 11 => ⟨k0_dev74 d, k0_dev74_lt d⟩
  | 12 => ⟨k0_dev75 d, k0_dev75_lt d⟩
  | 13 => ⟨k0_dev76 d, k0_dev76_lt d⟩
  | 14 => ⟨k0_dev77 d, k0_dev77_lt d⟩
  | 15 => ⟨k0_dev78 d, k0_dev78_lt d⟩
  | 16 => ⟨k0_dev79 d, k0_dev79_lt d⟩
  | 17 => ⟨k0_dev80 d, k0_dev80_lt d⟩
  | 18 => ⟨k0_dev81 d, k0_dev81_lt d⟩
  | 19 => ⟨k0_dev82 d, k0_dev82_lt d⟩
  | 20 => ⟨k0_dev83 d, k0_dev83_lt d⟩
  | 21 => ⟨k0_dev84 d, k0_dev84_lt d⟩
  | 22 => ⟨k0_dev85 d, k0_dev85_lt d⟩
  | 23 => ⟨k0_dev86 d, k0_dev86_lt d⟩
  | 24 => ⟨k0_dev87 d, k0_dev87_lt d⟩
  | 25 => ⟨k0_dev88 d, k0_dev88_lt d⟩
  | 26 => ⟨k0_dev89 d, k0_dev89_lt d⟩
  | 27 => ⟨k0_dev90 d, k0_dev90_lt d⟩
  | 28 => ⟨k0_dev91 d, k0_dev91_lt d⟩
  | 29 => ⟨k0_dev92 d, k0_dev92_lt d⟩
  | 30 => ⟨k0_dev93 d, k0_dev93_lt d⟩
  | ⟨n + 31, h⟩ => absurd h (by omega)

theorem agDev_eq : ∀ (r : Fin 31) (d : Dev nD), agDev d r = sh d r := by decide +kernel

/-- The numbers of the other devices, in the order in which the kernel takes them. -/
abbrev idxs : List (Fin 31) := [0, 1, 2, 3, 4, 5, 6, 7, 8, 9, 10, 11, 12, 13, 14, 15, 16, 17, 18, 19, 20, 21, 22, 23, 24, 25, 26, 27, 28, 29, 30]

/-- One step after the other. -/
def loopP {E : Type → Type} : List (Fin 31) → (Fin 31 → Prog E PUnit) → Prog E PUnit
  | [], _ => pure ⟨⟩
  | r :: l, op => op r >>= fun _ => loopP l op

/-! ## The windows and the semaphores -/

theorem inbSem : ∀ (k : Fin 32), ∀ a, (![k.val] : Fin 1 → Nat) a + S1.size a ≤ S32.size a := by decide
theorem inbSlot : ∀ (k : Fin 32), ∀ a, (![k.val, 0, 0] : Fin 3 → Nat) a + S1x16x512.size a ≤ S32x16x512.size a := by decide
theorem wordsSlot : ∀ (k : Fin 32), (Rect.unit (s := S32x16x512) ![k.val, 0, 0] S1x16x512.size (inbSlot k)).WholeWords (EltTy.packing .bf16) := by decide

abbrev semAt (a : DmaSems sig S32) (k : Fin 32) : DmaSem sig :=
  ((a.slice (Rect.unit (s := S32) ![k.val] S1.size (inbSem k))).squeeze S_ squeezes_S1_S_).sem

abbrev inM : Memref sig .tc .vmem S512x512 .f32 := Memref.whole cc0_stg0_0
abbrev outM : Memref sig .tc .vmem S512x512 .f32 := Memref.whole cc0_stg1_0
abbrev bufM : Memref sig .tc .vmem S512x512 .bf16 := Memref.whole cc0_scratch0
abbrev slotsM : Memref sig .tc .vmem S32x16x512 .bf16 := Memref.whole cc0_scratch1
abbrev agM : Memref sig .tc .vmem S512x512 .bf16 := Memref.whole cc0_scratch2
abbrev redM : Memref sig .tc .vmem S16x512 .f32 := Memref.whole cc0_scratch3

/-- Slot `k` of the landing slots. -/
abbrev slotM (k : Fin 32) : Memref sig .tc .vmem S16x512 .bf16 :=
  (slotsM.slice (Rect.unit (s := S32x16x512) ![k.val, 0, 0] S1x16x512.size (inbSlot k)) (fun _ => rfl)).squeeze S16x512 squeezes_S1x16x512_S16x512
/-- The rows of the send buffer that go to the device number `r`. -/
abbrev sbM (d : Dev nD) (r : Fin 31) : Memref sig .tc .vmem S16x512 .bf16 :=
  bufM.slice (Rect.unit (s := S512x512) (k0_off1 d (BitVec.ofNat 32 (1 + r.val))) S16x512.size (k0_off1_inb d r)) (fun _ => rfl)
/-- The rows of the gathered array that device `d` fills. -/
abbrev agW (d : Dev nD) : Memref sig .tc .vmem S16x512 .bf16 :=
  agM.slice (Rect.unit (s := S512x512) (k0_off3 d) S16x512.size (k0_off3_inb d)) (fun _ => rfl)

abbrev barS : Sem sig := (SemArray.scalar (sig.barrier 1 rfl) : Sems sig S_).sem

/-! ## The steps -/

def sigOp (d : Dev nD) (r : Fin 31) : Prog (TpuEff nD τ sig (Elt F) Λ₀ .tc) PUnit := semSignalWord (sigDev d r) barS 1#32
def rsSend (d : Dev nD) (r : Fin 31) : Prog (TpuEff nD τ sig (Elt F) Λ₀ .tc) PUnit :=
  Prog.lift (.enqueueDma (sbM d r) (.remote (Dev.tc (rsDev d r)) (slotM r.rev.succ) (.dma (semAt cc0_scratch4 r.succ))) (.dma (semAt cc0_scratch5 r.rev.succ))
    ((Memref.isWhole_whole _).wordExact_slice rfl _ (k0_off1_wordsbf16 d r)) (((Memref.isWhole_whole _).wordExact_slice rfl _ (wordsSlot r.rev.succ)).reshape _ _)
    ⟨⟨rfl, Or.inl rfl⟩, trivial⟩)
def rsWait (r : Fin 31) : Prog (TpuEff nD τ sig (Elt F) Λ₀ .tc) PUnit :=
  Prog.lift (.waitDma2 (semAt cc0_scratch5 r.succ) (slotM r.succ) (slotM r.succ)
    (((Memref.isWhole_whole _).wordExact_slice rfl _ (wordsSlot r.succ)).reshape _ _) (((Memref.isWhole_whole _).wordExact_slice rfl _ (wordsSlot r.succ)).reshape _ _))
def agSend (d : Dev nD) (r : Fin 31) : Prog (TpuEff nD τ sig (Elt F) Λ₀ .tc) PUnit :=
  Prog.lift (.enqueueDma (agW d) (.remote (Dev.tc (agDev d r)) (agW d) (.dma (semAt cc0_scratch6 r.succ))) (.dma (semAt cc0_scratch7 r.rev.succ))
    ((Memref.isWhole_whole _).wordExact_slice rfl _ (k0_off3_wordsbf16 d)) ((Memref.isWhole_whole _).wordExact_slice rfl _ (k0_off3_wordsbf16 d))
    ⟨⟨rfl, Or.inl rfl⟩, trivial⟩)
def agWait (r : Fin 31) : Prog (TpuEff nD τ sig (Elt F) Λ₀ .tc) PUnit :=
  Prog.lift (.waitDma2 (semAt cc0_scratch7 r.succ) (slotM r.succ) (slotM r.succ)
    (((Memref.isWhole_whole _).wordExact_slice rfl _ (wordsSlot r.succ)).reshape _ _) (((Memref.isWhole_whole _).wordExact_slice rfl _ (wordsSlot r.succ)).reshape _ _))
def rsDone (d : Dev nD) (r : Fin 31) : Prog (TpuEff nD τ sig (Elt F) Λ₀ .tc) PUnit :=
  Prog.lift (.waitDma2 (semAt cc0_scratch4 r.succ) (slotM r.rev.succ) (sbM d r)
    (((Memref.isWhole_whole _).wordExact_slice rfl _ (wordsSlot r.rev.succ)).reshape _ _) ((Memref.isWhole_whole _).wordExact_slice rfl _ (k0_off1_wordsbf16 d r)))
def agDone (d : Dev nD) (r : Fin 31) : Prog (TpuEff nD τ sig (Elt F) Λ₀ .tc) PUnit :=
  Prog.lift (.waitDma2 (semAt cc0_scratch6 r.succ) (agW d) (agW d)
    ((Memref.isWhole_whole _).wordExact_slice rfl _ (k0_off3_wordsbf16 d)) ((Memref.isWhole_whole _).wordExact_slice rfl _ (k0_off3_wordsbf16 d)))

/-- The rectangle of a device's own rows. -/
abbrev rowsR (d : Dev nD) : Rect S512x512 := Rect.unit (s := S512x512) (k0_off2 d) S16x512.size (k0_off2_inb d)
abbrev allR : Rect S512x512 := Rect.unit (s := S512x512) ![0, 0] S512x512.size inb_S512x512_S512x512_0_0
abbrev redR : Rect S16x512 := Rect.unit (s := S16x512) ![0, 0] S16x512.size inb_S16x512_S16x512_0_0
abbrev slotsR : Rect S32x16x512 := Rect.unit (s := S32x16x512) ![1, 0, 0] S31x16x512.size inb_S32x16x512_S31x16x512_1_0_0

/-- The input to the send buffer. -/
def castP : Prog (TpuEff nD τ sig (Elt F) Λ₀ .tc) PUnit := do
  let v407 : Vec F S512x512 .f32 ← Prog.lift (.load inM allR.toLoadRect (View.loadsAt_vmem h_S512x512))
  let v410 : Vec F S512x512 .bf16 ← Prog.lift (.load bufM allR.toLoadRect (View.loadsAt_vmem h_S512x512))
  Prog.lift (.store bufM allR (k0_pay1 v407) Finset.univ (View.stores_vmem h_S512x512 ((Memref.isWhole_whole _).storeExact_slice rfl _ packedbf16_S512x512_S512x512_0_0) (fun _ => rfl)) (.inl rfl))

/-- The sum of the own rows and the landed ones, to the own rows of the gathered array. -/
def sumP (d : Dev nD) : Prog (TpuEff nD τ sig (Elt F) Λ₀ .tc) PUnit := do
  let v1314 : Vec F S16x512 .f32 ← Prog.lift (.load inM (rowsR d).toLoadRect (View.loadsAt_vmem h_S16x512))
  let v1316 : Vec F S31x16x512 .bf16 ← Prog.lift (.load slotsM slotsR.toLoadRect (View.loadsAt_vmem h_S31x16x512))
  let v1320 : Vec F S16x512 .f32 ← Prog.lift (.load redM redR.toLoadRect (View.loadsAt_vmem h_S16x512))
  Prog.lift (.store redM redR (k0_pay2 v1314 v1316) Finset.univ (View.stores_vmem_bits_univ h_S16x512 rfl) (.inl rfl))
  let v1323 : Vec F S16x512 .f32 ← Prog.lift (.load redM redR.toLoadRect (View.loadsAt_vmem h_S16x512))
  let v1327 : Vec F S16x512 .bf16 ← Prog.lift (.load agM (rowsR d).toLoadRect (View.loadsAt_vmem h_S16x512))
  Prog.lift (.store agM (rowsR d) (k0_pay3 v1323) Finset.univ (View.stores_vmem h_S16x512 ((Memref.isWhole_whole _).storeExact_slice rfl _ (k0_off2_packedbf16 d)) (fun _ => rfl)) (.inl rfl))

/-- The gathered array to the result. -/
def outP : Prog (TpuEff nD τ sig (Elt F) Λ₀ .tc) PUnit := do
  let v2229 : Vec F S512x512 .bf16 ← Prog.lift (.load agM allR.toLoadRect (View.loadsAt_vmem h_S512x512))
  let v2231 : Vec F S512x512 .f32 ← Prog.lift (.load outM allR.toLoadRect (View.loadsAt_vmem h_S512x512))
  Prog.lift (.store outM allR (k0_pay4 v2229) Finset.univ (View.stores_vmem_bits_univ h_S512x512 rfl) (.inl rfl))

/-- The kernel's body, after the device has read its number. -/
def bodyP (d : Dev nD) : Prog (TpuEff nD τ sig (Elt F) Λ₀ .tc) PUnit := do
  loopP idxs (sigOp d)
  semWaitWord barS 31#32
  castP
  loopP idxs (rsSend d)
  loopP idxs rsWait
  sumP d
  loopP idxs (agSend d)
  loopP idxs agWait
  outP
  loopP idxs (rsDone d)
  loopP idxs (agDone d)

abbrev body0 : Prog (TpuEff nD τ sig (Elt F) Λ₀ .tc) PUnit :=
  cc0_body inM (Memref.isWhole_whole _) outM (Memref.isWhole_whole _) bufM (Memref.isWhole_whole _) slotsM (Memref.isWhole_whole _)
    agM (Memref.isWhole_whole _) redM (Memref.isWhole_whole _) cc0_scratch4 cc0_scratch5 cc0_scratch6 cc0_scratch7

set_option maxRecDepth 100000 in
set_option maxHeartbeats 4000000 in
theorem body0_eq : body0 (F := F) = (Prog.lift .deviceId >>= fun d : Dev nD => bodyP d) := by
  rfl

end Cert.AllReduce

end
-- ==== Proof.Blocks.lean ====
/-
The row blocks of a 512 × 512 array, the landing slots, and what each buffer holds at each stage.
-/
module

public import proofs.«01_k».proof.Proof.Loops
public import Idealize.ShloMosaic.Lib.ValueLayout

@[expose] public section

noncomputable section

namespace Cert.AllReduce

open Cert.KernelIdeal Cert.KernelIdeal.Gen

open Idealize.ShloMosaic
open Idealize.ShloMosaic.TcCoe
open Idealize.SL Idealize.SL.Sem Idealize.ShloMosaic.ValueIdx

variable {F : FTy → Type} [FloatOps F]

/-! ## The windows by device -/

theorem rowInb : ∀ d : Dev nD, ∀ a, (![16 * d.val, 0] : Fin 2 → Nat) a + S16x512.size a ≤ S512x512.size a := by decide

/-- Device `d`'s sixteen rows of a 512 × 512 array. -/
abbrev rowR (d : Dev nD) : Rect S512x512 := Rect.unit (s := S512x512) ![16 * d.val, 0] S16x512.size (rowInb d)
abbrev rowM (m : Memref sig .tc .vmem S512x512 .bf16) (d : Dev nD) : Memref sig .tc .vmem S16x512 .bf16 := m.slice (rowR d) (fun _ => rfl)
abbrev slotR (k : Fin 32) : Rect S32x16x512 := Rect.unit (s := S32x16x512) ![k.val, 0, 0] S1x16x512.size (inbSlot k)

theorem off1_eq : ∀ (d : Dev nD) (r : Fin 31), k0_off1 d (BitVec.ofNat 32 (1 + r.val)) = ![16 * (sh d r).val, 0] := by decide +kernel

theorem slice_rowR (m : Memref sig .tc .vmem S512x512 .bf16) {off : Fin 2 → Nat} {d : Dev nD} (h : off = ![16 * d.val, 0])
    (p : ∀ a, off a + S16x512.size a ≤ S512x512.size a) :
    (m.slice (Rect.unit (s := S512x512) off S16x512.size p) (fun _ => rfl) : Memref sig .tc .vmem S16x512 .bf16) = rowM m d := by
  subst h; rfl

theorem rowsR_eq (d : Dev nD) : rowsR d = rowR d := by
  have h := k0_off2_eq d
  unfold rowsR rowR
  congr 1

theorem sbM_eq (d : Dev nD) (r : Fin 31) : sbM d r = rowM bufM (sh d r) := slice_rowR bufM (off1_eq d r) _
theorem agW_eq (d : Dev nD) : agW d = rowM agM d := slice_rowR agM (k0_off3_eq d) _

/-! ## Their elements -/

theorem mem_rowR (d : Dev nD) (i : S512x512.Idx) : i ∈ (rowR d).set ↔ (i 0).val / 16 = d.val := by
  rw [LoadRect.mem_set]
  constructor
  · intro h
    obtain ⟨j, hj, he⟩ := h 0
    have hj' : j < 16 := hj
    have he' : (i 0).val = 16 * d.val + 1 * j := he
    omega
  · intro h a
    have h1 : (i 1).val < 512 := (i 1).isLt
    match a with
    | ⟨0, _⟩ => exact ⟨(i 0).val % 16, Nat.mod_lt _ (by decide), (by omega : (i 0).val = 16 * d.val + 1 * ((i 0).val % 16))⟩
    | ⟨1, _⟩ => exact ⟨(i 1).val, h1, (by omega : (i 1).val = 0 + 1 * (i 1).val)⟩

theorem mem_slotR (k : Fin 32) (i : S32x16x512.Idx) : i ∈ (slotR k).set ↔ (i 0).val = k.val := by
  rw [LoadRect.mem_set]
  constructor
  · intro h
    obtain ⟨j, hj, he⟩ := h 0
    have hj' : j < 1 := hj
    have he' : (i 0).val = k.val + 1 * j := he
    omega
  · intro h a
    have h1 : (i 1).val < 16 := (i 1).isLt
    have h2 : (i 2).val < 512 := (i 2).isLt
    match a with
    | ⟨0, _⟩ => exact ⟨0, (by decide : 0 < 1), (by omega : (i 0).val = k.val + 1 * 0)⟩
    | ⟨1, _⟩ => exact ⟨(i 1).val, h1, (by omega : (i 1).val = 0 + 1 * (i 1).val)⟩
    | ⟨2, _⟩ => exact ⟨(i 2).val, h2, (by omega : (i 2).val = 0 + 1 * (i 2).val)⟩

/-- The elements of device `d`'s rows, and of slot `k`. -/
abbrev rowS (d : Dev nD) : Finset S512x512.Idx := (rowR d).set
abbrev slotS (k : Fin 32) : Finset S32x16x512.Idx := (slotR k).set

theorem buf_set (d : Dev nD) : (rowM bufM d).view.set = rowS d := View.set_slice_whole _ _
theorem ag_set (d : Dev nD) : (rowM agM d).view.set = rowS d := View.set_slice_whole _ _
theorem slot_set (k : Fin 32) : (slotM k).view.set = slotS k := (View.set_reshape _ _).trans (View.set_slice_whole _ _)

theorem rowS_disjoint {d e : Dev nD} (h : d ≠ e) : Disjoint (rowS d) (rowS e) :=
  Finset.disjoint_left.mpr fun i hi hj => h (Fin.ext (((mem_rowR d i).mp hi).symm.trans ((mem_rowR e i).mp hj)))
theorem slotS_disjoint {d e : Fin 32} (h : d ≠ e) : Disjoint (slotS d) (slotS e) :=
  Finset.disjoint_left.mpr fun i hi hj => h (Fin.ext (((mem_slotR d i).mp hi).symm.trans ((mem_slotR e i).mp hj)))

theorem rowS_univ : (Finset.univ : Finset (Dev nD)).biUnion rowS = Finset.univ := by
  ext i
  simp only [Finset.mem_biUnion, Finset.mem_univ, true_and, iff_true]
  have h0 : (i 0).val < 512 := (i 0).isLt
  exact ⟨⟨(i 0).val / 16, by show _ < 32; omega⟩, (mem_rowR _ _).mpr rfl⟩
theorem slotS_univ : (Finset.univ : Finset (Fin 32)).biUnion slotS = Finset.univ := by
  ext i
  simp only [Finset.mem_biUnion, Finset.mem_univ, true_and, iff_true]
  exact ⟨⟨(i 0).val, (i 0).isLt⟩, (mem_slotR _ _).mpr rfl⟩

theorem emb_row (b : Ref sig .tc) (m : Memref sig .tc .vmem S512x512 .bf16) (d : Dev nD) (a : Fin 16) (b : Fin 512) :
    (rowR d).emb (ix2 a b) = (ix2 ⟨16 * d.val + a.val, by have := d.isLt; have : d.val < 32 := this; omega⟩ b : S512x512.Idx) := by
  refine funext fun x => Fin.ext ?_
  match x with
  | ⟨0, _⟩ => exact (by omega : 16 * d.val + 1 * a.val = 16 * d.val + a.val)
  | ⟨1, _⟩ => exact (by omega : 0 + 1 * b.val = b.val)

theorem emb_slot (k : Fin 32) (a : Fin 16) (b : Fin 512) : (slotM k).view.emb (ix2 a b) = (ix3 k a b : S32x16x512.Idx) := by
  show (slotR k).emb (Shape.reshapeEquiv _ (ix2 a b)) = _
  rw [reshapeEquiv_ix2_1ab]
  refine funext fun x => Fin.ext ?_
  match x with
  | ⟨0, _⟩ => exact (by omega : k.val + 1 * 0 = k.val)
  | ⟨1, _⟩ => exact (by omega : 0 + 1 * a.val = a.val)
  | ⟨2, _⟩ => exact (by omega : 0 + 1 * b.val = b.val)

/-! ## Contents -/

/-- The device `k` places after `c`, around. -/
def pl (c : Dev nD) (k : Fin 32) : Dev nD := ⟨(c.val + k.val) % 32, Nat.mod_lt _ (by decide)⟩
theorem pl_succ (c : Dev nD) (r : Fin 31) : pl c r.succ = sh c r := rfl

section Contents
variable (X : Dev nD → Vec F S512x512 .f32)

/-- The send buffer of device `c`: its input, in the format of the wire. -/
def sbF (c : Dev nD) : Vec F S512x512 .bf16 := k0_pay1 (X c)
/-- The landing slots of device `c`: slot `k` its rows of the send buffer of the device `k` places after it. -/
def slotF (c : Dev nD) : Vec F S32x16x512 .bf16 := fun i =>
  sbF X (pl c ⟨(i 0).val, (i 0).isLt⟩) (ix2 ⟨16 * c.val + (i 1).val, by have h : c.val < 32 := c.isLt; have h' : (i 1).val < 16 := (i 1).isLt; omega⟩ ⟨(i 2).val, (i 2).isLt⟩)
/-- The sum device `c` computes. -/
def redF (c : Dev nD) : Vec F S16x512 .f32 :=
  k0_pay2 (inM.view.readAt (Elt F) (rowsR c).toLoadRect (X c)) (slotsM.view.readAt (Elt F) slotsR.toLoadRect (slotF X c))
/-- The rows device `c` gives to the gathered array. -/
def agB (c : Dev nD) : Vec F S16x512 .bf16 := k0_pay3 (redF X c)
/-- The gathered array, the same on every device. -/
def gathF : Vec F S512x512 .bf16 := fun i =>
  agB X ⟨(i 0).val / 16, by have h : (i 0).val < 512 := (i 0).isLt; show _ < 32; omega⟩
    (ix2 ⟨(i 0).val % 16, Nat.mod_lt _ (by decide)⟩ ⟨(i 1).val, (i 1).isLt⟩)
/-- The result, the same on every device. -/
def outF : Vec F S512x512 .f32 := k0_pay4 (gathF X)

/-- What lands in a slot of `sh p r` is what its `slotF` says. -/
theorem slot_landed (p : Dev nD) (r : Fin 31) (fd : Vec F S32x16x512 .bf16) : ∀ i ∈ slotS r.rev.succ,
    (slotM r.rev.succ).view.write (Elt F) fd ((rowM bufM (sh p r)).view.read (Elt F) (sbF X p)) Finset.univ i = slotF X (sh p r) i := by
  intro i hi
  rw [← slot_set] at hi
  obtain ⟨x, -, rfl⟩ := Finset.mem_map.mp hi
  rw [View.write_emb_of_mem _ _ (Finset.mem_univ x)]
  obtain ⟨a, b, rfl⟩ : ∃ (a : Fin 16) (b : Fin 512), x = ix2 a b := ⟨x 0, x 1, eq_ix2 x⟩
  rw [emb_slot]
  show sbF X p ((rowR (sh p r)).emb (ix2 a b)) = sbF X (pl (sh p r) r.rev.succ) _
  rw [emb_row cc0_scratch0 bufM, pl_succ, sh_rev]

theorem gath_stored' (d : Dev nD) (f : Vec F S512x512 .bf16) {off : Fin 2 → Nat} (h : off = ![16 * d.val, 0])
    (p : ∀ a, off a + S16x512.size a ≤ S512x512.size a) : ∀ i ∈ rowS d,
    (agM.access (Rect.unit (s := S512x512) off S16x512.size p) : View sig .tc _ _ _).write (Elt F) f (agB X d) Finset.univ i = gathF X i := by
  subst h
  intro i hi
  have hi' : i ∈ (agM.access (rowR d) : View sig .tc _ _ _).set := by
    rw [show (agM.access (rowR d) : View sig .tc _ _ _).set = rowS d from View.set_slice_whole _ _]; exact hi
  obtain ⟨x, -, rfl⟩ := Finset.mem_map.mp hi'
  rw [View.write_emb_of_mem _ _ (Finset.mem_univ x)]
  obtain ⟨a, b, rfl⟩ : ∃ (a : Fin 16) (b : Fin 512), x = ix2 a b := ⟨x 0, x 1, eq_ix2 x⟩
  show agB X d (ix2 a b) = gathF X ((rowR d).emb (ix2 a b))
  rw [emb_row cc0_scratch2 agM]
  have ha := a.isLt
  have h1 : (16 * d.val + a.val) / 16 = d.val := by omega
  have h2 : (16 * d.val + a.val) % 16 = a.val := by omega
  unfold gathF
  show _ = agB X ⟨(16 * d.val + a.val) / 16, _⟩ (ix2 ⟨(16 * d.val + a.val) % 16, _⟩ b)
  simp only [h1, h2]

/-- What device `d` stores in its rows of the gathered array is what `gathF` says. -/
theorem gath_stored (d : Dev nD) (f : Vec F S512x512 .bf16) : ∀ i ∈ rowS d,
    (agM.access (rowsR d) : View sig .tc _ _ _).write (Elt F) f (agB X d) Finset.univ i = gathF X i :=
  gath_stored' X d f (k0_off2_eq d) _

/-- Rows copied between gathered arrays keep what they hold. -/
theorem gath_landed (d : Dev nD) (fd g : Vec F S512x512 .bf16) : ∀ i ∈ rowS d,
    (rowM agM d).view.write (Elt F) fd ((rowM agM d).view.read (Elt F) g) Finset.univ i = g i := by
  intro i hi
  rw [View.write_read_eq_piecewise, View.setOn_univ, ag_set]
  exact Finset.piecewise_eq_of_mem _ _ _ hi

end Contents

/-- The landed slots hold what a load of slots 1 to 31 reads. -/
theorem slots_load_subset : (slotsM.view.setOn slotsR.toLoadRect.set : Finset S32x16x512.Idx) ⊆ (Finset.univ : Finset (Fin 31)).biUnion fun r => slotS r.succ := by
  intro i hi
  obtain ⟨j, hj, rfl⟩ := Finset.mem_map.mp hi
  obtain ⟨n, hn, he⟩ := LoadRect.mem_set _ |>.mp hj (0 : Fin 3)
  have hn' : n < 31 := hn
  have he' : (j (0 : Fin 3)).val = 1 + 1 * n := he
  refine Finset.mem_biUnion.mpr ⟨⟨n, hn'⟩, Finset.mem_univ _, (mem_slotR _ _).mpr ?_⟩
  show (j (0 : Fin 3)).val = n + 1
  omega

theorem univ_dev (c : Dev nD) : (Finset.univ : Finset (Dev nD)).erase c = (Finset.univ : Finset (Fin 31)).map ⟨sh c, by revert c; decide +kernel⟩ := by
  revert c; decide +kernel
theorem univ_slot : (Finset.univ : Finset (Fin 32)).erase 0 = (Finset.univ : Finset (Fin 31)).map ⟨Fin.succ, Fin.succ_injective _⟩ := by decide

end Cert.AllReduce

end
-- ==== Proof.Talk.lean ====
/-
The protocol of the exchange: its cells, who pays which, what each payment carries, and the order of the waits.
-/
module

public import proofs.«01_k».proof.Proof.Blocks

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A cell's duties go by the number of the device that pays, counted from the cell's device. -/
abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barCell (c : Dev nD) : GSem nD τ sig := ((c : Thread nD τ), .reg barS)
/-- The four arrays of transfer semaphores: sent and landed, of the first exchange and of the second. -/
abbrev arr : Fin 4 → DmaSems sig S32 := fun | 0 => cc0_scratch4 | 1 => cc0_scratch5 | 2 => cc0_scratch6 | 3 => cc0_scratch7
abbrev osem (ak : Fin 4 × Fin 32) : SemLoc sig := .dma (semAt (arr ak.1) ak.2)
abbrev cellAt (c : Dev nD) (ak : Fin 4 × Fin 32) : GSem nD τ sig := ((c : Thread nD τ), osem ak)

theorem semAt_val : ∀ (a : Fin 4) (k : Fin 32), (semAt (arr a) k).val = 2 + 32 * a.val + k.val := by decide +kernel
theorem osem_inj : Function.Injective osem := by
  rintro ⟨a, k⟩ ⟨a', k'⟩ h
  have h1 : semAt (arr a) k = semAt (arr a') k' := SemLoc.dma.inj h
  have h2 : 2 + 32 * a.val + k.val = 2 + 32 * a'.val + k'.val := by rw [← semAt_val, ← semAt_val, h1]
  have := k.isLt; have := k'.isLt
  exact Prod.ext (Fin.ext (by show a.val = a'.val; omega)) (Fin.ext (by show k.val = k'.val; omega))

/-- What one transfer of sixteen rows credits. -/
abbrev N : ℕ := (slotM 1).view.dmaCredit
theorem N_pos : 0 < N := View.dmaCredit_pos _ (by decide)

/-! ## What the buffers hold, as resources -/

section Pts
variable (c : Dev nD)
/-- Device `c`'s landing slot `k`. -/
def slotPts (k : Fin 32) (f : Vec F S32x16x512 .bf16) : sProp 𝕄 := ((c : Thread nD τ).loc cc0_scratch1) ↦[slotS k]{fullShare} f
/-- The rows of device `d` in device `c`'s gathered array, a share of them. -/
def agPts (d : Dev nD) (q : PosShare TreeShare) (f : Vec F S512x512 .bf16) : sProp 𝕄 := ((c : Thread nD τ).loc cc0_scratch2) ↦[rowS d]{q} f
/-- The rows of device `d` in device `c`'s send buffer. -/
def sbPts (d : Dev nD) (f : Vec F S512x512 .bf16) : sProp 𝕄 := ((c : Thread nD τ).loc cc0_scratch0) ↦[rowS d]{fullShare} f

omit [FloatOps F] in
instance slotPts_storable (k : Fin 32) (f) : BI.Storable (upEmb : UEmb _ 𝕄) (slotPts (F := F) c k f) := by unfold slotPts; infer_instance
omit [FloatOps F] in
instance agPts_storable (d : Dev nD) (q) (f) : BI.Storable (upEmb : UEmb _ 𝕄) (agPts (F := F) c d q f) := by unfold agPts; infer_instance
omit [FloatOps F] in
instance sbPts_storable (d : Dev nD) (f) : BI.Storable (upEmb : UEmb _ 𝕄) (sbPts (F := F) c d f) := by unfold sbPts; infer_instance
end Pts

/-- What is left of a share after `n` lends, and the share lend number `n` gives. -/
def kept (n : ℕ) : PosShare TreeShare := Nat.rec fullShare (fun _ q => q.left) n
def lent (n : ℕ) : PosShare TreeShare := (kept n).right

section Sched
variable (X : Dev nD → Vec F S512x512 .f32)

/-! ## The schedule -/

/-- What device `sh d r` hands device `d` at the start: the slot of its own that `d`'s rows will land in, its rows of
    `d` in the gathered array, and that both its landing cells are open. -/
def barPay (d : Dev nD) (r : Fin 31) : sProp 𝕄 :=
  iprop((∃ f, slotPts (sh d r) r.rev.succ f) ∗ (∃ f, agPts (sh d r) d fullShare f)
    ∗ reached ER (cellAt (sh d r) (1, r.rev.succ)) 0 ∗ reached ER (cellAt (sh d r) (3, r.rev.succ)) 0)

/-- What a landed or sent transfer hands over, by the array its semaphore is in. -/
def dmaPay (d : Dev nD) (a : ℕ) (r : Fin 31) : sProp 𝕄 :=
  if a = 0 then sbPts d (sh d r) (sbF X d)
  else if a = 1 then slotPts d r.succ (slotF X d)
  else if a = 2 then agPts d d (lent r.val) (gathF X)
  else agPts d (sh d r) fullShare (gathF X)

omit [FloatOps F] in
instance barPay_storable (d : Dev nD) (r : Fin 31) : BI.Storable (upEmb : UEmb _ 𝕄) (barPay (F := F) d r) := by unfold barPay; infer_instance
instance dmaPay_storable (d : Dev nD) (a : ℕ) (r : Fin 31) : BI.Storable (upEmb : UEmb _ 𝕄) (dmaPay X d a r) := by
  unfold dmaPay; (repeat' split) <;> infer_instance

def duts (g : GSem nD τ sig) : Finset (Fin 31) :=
  match g.2 with
  | .reg s => if s = barS then Finset.univ else ∅
  | .dma q => if q.val < 2 ∨ (q.val - 2) % 32 = 0 then ∅ else {0}

def amt (g : GSem nD τ sig) : ℕ := match g.2 with | .reg _ => 1 | .dma _ => N

def pays (g : GSem nD τ sig) (r : Fin 31) : sProp 𝕄 :=
  match g.2 with
  | .reg _ => barPay g.1.1 r
  | .dma q => dmaPay X g.1.1 ((q.val - 2) / 32) ⟨((q.val - 2) % 32 - 1) % 31, Nat.mod_lt _ (by decide)⟩

def talkRd : Rounds.Schedule (GSem nD τ sig) (Fin 31) 𝕄 where
  duties g r := if r = 0 ∧ g.1.2 = .tc then duts g else ∅
  unitless _ := False
  amount g _ _ := amt g
  payload g _ r := pays X g r
  amount_pos g _ _ _ := by
    unfold amt; split
    · exact Nat.one_pos
    · exact N_pos

instance talkRd_payload_storable (g : GSem nD τ sig) (r : ℕ) (d : Fin 31) : BI.Storable (upEmb : UEmb _ 𝕄) ((talkRd X).payload g r d) := by
  show BI.Storable upEmb (pays X g d)
  unfold pays; split <;> infer_instance

section Facts
variable (c : Dev nD)

theorem duts_dma (q : DmaSem sig) (c : Dev nD) : duts ((c : Thread nD τ), .dma q) = if q.val < 2 ∨ (q.val - 2) % 32 = 0 then ∅ else {0} := rfl
theorem duties_zero (sm : SemLoc sig) (c : Dev nD) : (talkRd X).duties ((c : Thread nD τ), sm) 0 = duts ((c : Thread nD τ), sm) := by
  dsimp only [talkRd]; exact if_pos ⟨rfl, rfl⟩
theorem duties_bar : (talkRd X).duties (barCell c) 0 = Finset.univ := by
  rw [duties_zero]; dsimp only [duts]; exact if_pos rfl
theorem duties_dma (a : Fin 4) (r : Fin 31) : (talkRd X).duties (cellAt c (a, r.succ)) 0 = {0} := by
  rw [duties_zero, duts_dma]
  refine if_neg ?_
  have h := semAt_val a r.succ
  rw [Fin.val_succ] at h
  have := r.isLt; have := a.isLt
  show ¬((semAt (arr a) r.succ).val < 2 ∨ ((semAt (arr a) r.succ).val - 2) % 32 = 0)
  omega
theorem duties_later (g : GSem nD τ sig) : ∀ r, 1 ≤ r → (talkRd X).duties g r = ∅ :=
  fun r hr => by dsimp only [talkRd]; exact if_neg fun h => by omega
/-- The first semaphore of each array is not used. -/
theorem duties_unused (a : Fin 4) : ∀ r, 0 ≤ r → (talkRd X).duties (cellAt c (a, 0)) r = ∅ := fun r _ => by
  have h := semAt_val a 0
  have h0 : (0 : Fin 32).val = 0 := rfl
  have hd : duts (cellAt c (a, 0)) = ∅ := (duts_dma _ c).trans (if_pos (by
    show (semAt (arr a) 0).val < 2 ∨ ((semAt (arr a) 0).val - 2) % 32 = 0
    omega))
  show (if r = 0 ∧ (cellAt c (a, 0)).1.2 = .tc then duts (cellAt c (a, 0)) else ∅) = ∅
  rw [hd]; split <;> rfl

theorem amount_bar (r : Fin 31) : (talkRd X).amount (barCell c) 0 r = 1 := rfl
theorem amount_dma (ak : Fin 4 × Fin 32) (r : Fin 31) : (talkRd X).amount (cellAt c ak) 0 r = N := rfl

theorem expect_bar : (talkRd X).expect (barCell c) 0 = 31 := by
  unfold Schedule.expect Schedule.amountOf; rw [duties_bar, Finset.sum_congr rfl fun r _ => amount_bar X c r, Finset.sum_const]; rfl
theorem expect_dma (a : Fin 4) (r : Fin 31) : (talkRd X).expect (cellAt c (a, r.succ)) 0 = N := by
  unfold Schedule.expect Schedule.amountOf; rw [duties_dma, Finset.sum_singleton]; rfl

theorem payload_bar (r : Fin 31) : (talkRd X).payload (barCell c) 0 r = barPay c r := rfl
theorem payload_dma (a : Fin 4) (r : Fin 31) (u : Fin 31) : (talkRd X).payload (cellAt c (a, r.succ)) 0 u = dmaPay X c a.val r := by
  show dmaPay X c (((semAt (arr a) r.succ).val - 2) / 32) ⟨(((semAt (arr a) r.succ).val - 2) % 32 - 1) % 31, _⟩ = _
  have hr := r.isLt
  have h1 : (2 + 32 * a.val + r.succ.val - 2) / 32 = a.val := by rw [Fin.val_succ]; omega
  have h2 : ((2 + 32 * a.val + r.succ.val - 2) % 32 - 1) % 31 = r.val := by rw [Fin.val_succ]; omega
  simp only [semAt_val, h1, h2]

theorem rest_bar : bigSep ((talkRd X).duties (barCell c) 0 \ ∅) (fun u => (talkRd X).payload (barCell c) 0 u) = bigSep Finset.univ (fun r => barPay c r) := by
  rw [Finset.sdiff_empty, duties_bar]; rfl
theorem rest_dma (a : Fin 4) (r : Fin 31) :
    bigSep ((talkRd X).duties (cellAt c (a, r.succ)) 0 \ ∅) (fun u => (talkRd X).payload (cellAt c (a, r.succ)) 0 u) = dmaPay X c a.val r := by
  rw [Finset.sdiff_empty, duties_dma, bigSep_singleton, payload_dma]

end Facts
end Sched

/-! ## What each device owes; the levels -/

/-- What is still to be paid, of one kind, to the devices listed. -/
abbrev owing (f : Fin 31 → CellTallies nD τ sig Unit) (l : List (Fin 31)) : CellTallies nD τ sig Unit := (l.map f).sum

abbrev barDue (c : Dev nD) (r : Fin 31) : CellTallies nD τ sig Unit := tallyAt (barCell (sh c r)) () 1
abbrev rsDue (c : Dev nD) (r : Fin 31) : CellTallies nD τ sig Unit := tallyAt (cellAt (sh c r) (1, r.rev.succ)) () N
abbrev agDue (c : Dev nD) (r : Fin 31) : CellTallies nD τ sig Unit := tallyAt (cellAt (sh c r) (3, r.rev.succ)) () N

def O₀ (c : Dev nD) : CellTallies nD τ sig Unit := owing (barDue c) idxs + (owing (rsDue c) idxs + owing (agDue c) idxs)

def L (g : GSem nD τ sig) : Finset Unit := if g.1.2 = .tc then {()} else ∅
def lv (g : GSem nD τ sig) (_ : Unit) : ℕ :=
  match g.2 with
  | .reg _ => 1
  | .dma q => if q.val < 34 then 0 else if q.val < 66 then 2 else if q.val < 98 then 0 else 3
theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_rs (c : Dev nD) (k : Fin 32) : lv (cellAt c (1, k)) () = 2 := by
  have h := semAt_val 1 k
  have := k.isLt
  have h1 : (1 : Fin 4).val = 1 := rfl
  dsimp only [lv]
  rw [if_neg (by rw [h]; omega), if_pos (by rw [h]; omega)]
theorem lv_ag (c : Dev nD) (k : Fin 32) : lv (cellAt c (3, k)) () = 3 := by
  have h := semAt_val 3 k
  have h1 : (3 : Fin 4).val = 3 := rfl
  dsimp only [lv]
  rw [if_neg (by rw [h]; omega), if_neg (by rw [h]; omega), if_neg (by rw [h]; omega)]

theorem owing_pos {f : Fin 31 → CellTallies nD τ sig Unit} {g : GSem nD τ sig} {u : Unit} :
    ∀ {l : List (Fin 31)}, 0 < owing f l g u → ∃ r, 0 < f r g u := by
  intro l
  induction l with
  | nil => intro h; exact absurd h (Nat.lt_irrefl 0)
  | cons r l ih =>
    intro h
    have h' : 0 < f r g u + owing f l g u := by
      have e : owing f (r :: l) = f r + owing f l := by unfold owing; rw [List.map_cons, List.sum_cons]
      rw [e, Pi.add_apply, Finsupp.add_apply] at h; exact h
    rcases Nat.eq_zero_or_pos (f r g u) with h0 | h0
    · exact ih (by omega)
    · exact ⟨r, h0⟩

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

/-- Everything a device owes is on a landing cell of the second exchange. -/
def AgOnly (O : CellTallies nD τ sig Unit) : Prop := ∀ g u, 0 < O g u → ∃ d k, g = cellAt d (3, k)
/-- Everything a device owes is on a landing cell. -/
def LandOnly (O : CellTallies nD τ sig Unit) : Prop := ∀ g u, 0 < O g u → (∃ d k, g = cellAt d (1, k)) ∨ ∃ d k, g = cellAt d (3, k)

theorem agOnly (c : Dev nD) (l : List (Fin 31)) : AgOnly (owing (agDue c) l) := fun g u h => by
  obtain ⟨r, hr⟩ := owing_pos h; exact ⟨_, _, tally_pos hr⟩
theorem landOnly (c : Dev nD) (l l' : List (Fin 31)) : LandOnly (owing (rsDue c) l + owing (agDue c) l') := fun g u h => by
  rw [Pi.add_apply, Finsupp.add_apply] at h
  rcases Nat.eq_zero_or_pos (owing (rsDue c) l g u) with h0 | h0
  · right; exact agOnly c l' g u (by omega)
  · left; obtain ⟨r, hr⟩ := owing_pos h0; exact ⟨_, _, tally_pos hr⟩
theorem O₀_pos {c : Dev nD} {g : GSem nD τ sig} {u : Unit} (h : 0 < O₀ c g u) :
    (∃ d, g = barCell d) ∨ (∃ d k, g = cellAt d (1, k)) ∨ ∃ d k, g = cellAt d (3, k) := by
  unfold O₀ at h
  rw [Pi.add_apply, Finsupp.add_apply] at h
  rcases Nat.eq_zero_or_pos (owing (barDue c) idxs g u) with h0 | h0
  · right; exact landOnly c idxs idxs g u (by omega)
  · left; obtain ⟨r, hr⟩ := owing_pos h0; exact ⟨_, tally_pos hr⟩

omit [FloatOps F] in
theorem mayWait_bar (c : Dev nD) {O : CellTallies nD τ sig Unit} (h : LandOnly O) :
    (levAts L lv : sProp 𝕄) ⊢ MayWait (c : Thread nD τ) (.reg barS) () O :=
  MayOwe.of_cut (L := L) (lev := lv) 1 (fun p hp => by rw [Finset.mem_singleton.mp hp, L_tc]; exact Finset.mem_singleton_self _)
    (fun g u hg => by
      rcases h g u hg with ⟨d, k, rfl⟩ | ⟨d, k, rfl⟩ <;> (rw [L_tc]; exact Finset.mem_singleton_self _))
    (fun p hp => by rw [Finset.mem_singleton.mp hp]; exact Nat.le_refl 1)
    (fun g u hg => by
      cases u
      rcases h g () hg with ⟨d, k, rfl⟩ | ⟨d, k, rfl⟩
      · rw [lv_rs]; decide
      · rw [lv_ag]; decide)

omit [FloatOps F] in
theorem mayWait_rs (c : Dev nD) (k : Fin 32) {O : CellTallies nD τ sig Unit} (h : AgOnly O) :
    (levAts L lv : sProp 𝕄) ⊢ MayWait (c : Thread nD τ) (osem (1, k)) () O :=
  MayOwe.of_cut (L := L) (lev := lv) 2 (fun p hp => by rw [Finset.mem_singleton.mp hp, L_tc]; exact Finset.mem_singleton_self _)
    (fun g u hg => by obtain ⟨d, k, rfl⟩ := h g u hg; rw [L_tc]; exact Finset.mem_singleton_self _)
    (fun p hp => by rw [Finset.mem_singleton.mp hp]; exact le_of_eq (lv_rs c k))
    (fun g u hg => by cases u; obtain ⟨d, k, rfl⟩ := h g () hg; rw [lv_ag]; decide)

omit [FloatOps F] in
/-- The waits of the pipeline's own copies come below everything owed. -/
theorem mayWait_stage (c : Dev nD) (q : DmaSem sig) (hq : q.val < 34) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, k, rfl⟩ | ⟨d, k, rfl⟩ <;> (rw [L_tc]; exact Finset.mem_singleton_self _))
      (fun p hp => by rw [Finset.mem_singleton.mp hp]; dsimp only [lv]; rw [if_pos hq])
      (fun g u hg => by
        cases u
        rcases O₀_pos hg with ⟨d, rfl⟩ | ⟨d, k, rfl⟩ | ⟨d, k, rfl⟩
        · rw [lv_bar]; decide
        · rw [lv_rs]; decide
        · rw [lv_ag]; decide)
  · rw [MayWait_zero]; iintro -; iempintro

end Cert.AllReduce

end
-- ==== Proof.Steps.lean ====
/-
The loops of the body, one step of each proved once at a symbolic device and offset.
-/
module

public import proofs.«01_k».proof.Proof.Talk
public import Idealize.ShloMosaic.Lib.Pipeline.BigSepL

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

abbrev wpB (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A loop, from one step of it. -/
theorem wp_loop (c : Dev nD) {op : Fin 31 → Prog (TpuEff nD τ sig (Elt F) Λ₀ .tc) PUnit} {S : List (Fin 31) → sProp 𝕄} {A B : Fin 31 → sProp 𝕄}
    (h : ∀ r l, iprop(S (r :: l) ∗ A r) ⊢ wpB c (op r) (fun _ => iprop(S l ∗ B r))) :
    ∀ l, iprop(S l ∗ bigSepL l A) ⊢ wpB c (loopP l op) (fun _ => iprop(S [] ∗ bigSepL l B)) := by
  intro l
  induction l with
  | nil =>
    show _ ⊢ wpB c (Prog.ret PUnit.unit) _
    unfold wpB; rw [wp_ret]
    iintro H; imodintro; iexact H
  | cons r l ih =>
    rw [bigSepL_cons', bigSepL_cons']
    show _ ⊢ wpB c (op r >>= fun _ => loopP l op) _
    unfold wpB; rw [wp_bind]
    iintro ⟨HS, HA, HL⟩
    ihave H := (h r l) $$ [HS HA]
    · isplitl [HS] <;> iassumption
    iapply (wp_wand frame _ _) $$ H
    iintro %u ⟨HS, HB⟩
    ihave H2 := ih $$ [HS HL]
    · isplitl [HS] <;> iassumption
    iapply (wp_wand frame _ _) $$ H2
    iintro %u ⟨HS, HL⟩
    isplitl [HS]; · iexact HS
    isplitl [HB] <;> iassumption

omit [FloatOps F] in
theorem bigSep_idxs (Φ : Fin 31 → sProp 𝕄) : bigSep Finset.univ Φ = bigSepL idxs Φ := bigSep_univ_eq_bigSepL idxs (by decide) (by decide) Φ

/-- A whole loop and what follows it. -/
theorem wp_loop_all (c : Dev nD) {op : Fin 31 → Prog (TpuEff nD τ sig (Elt F) Λ₀ .tc) PUnit} {S : List (Fin 31) → sProp 𝕄} {A B : Fin 31 → sProp 𝕄}
    (h : ∀ r l, iprop(S (r :: l) ∗ A r) ⊢ wpB c (op r) (fun _ => iprop(S l ∗ B r)))
    {α : Type} {k : PUnit → Prog (TpuEff nD τ sig (Elt F) Λ₀ .tc) α} {Q : α → sProp 𝕄} :
    iprop(S idxs ∗ bigSep Finset.univ A) ⊢ iprop((S [] ∗ bigSep Finset.univ B -∗ wpB c (k ⟨⟩) Q) -∗ wpB c (loopP idxs op >>= k) Q) := by
  unfold wpB; rw [wp_bind, bigSep_idxs, bigSep_idxs]
  iintro H Hk
  ihave H := (wp_loop c h idxs) $$ H
  iapply (wp_wand frame _ _) $$ H
  iintro %u H
  iapply Hk; iexact H

section Body
variable (X : Dev nD → Vec F S512x512 .f32) (K : Dev nD × Option (Fin 4 × Fin 32) → ℕ) (c : Dev nD)

/-- What everyone knows: every cell's agreement, that every handshake cell and every cell of the device's own is open,
    and the order of the waits. -/
def ctx : sProp 𝕄 :=
  iprop((bigSep Finset.univ fun d : Dev nD => cellInv ER (talkRd X) (K (d, none)) (barCell d))
    ∗ (bigSep Finset.univ fun x : Dev nD × (Fin 4 × Fin 32) => cellInv ER (talkRd X) (K (x.1, some x.2)) (cellAt x.1 x.2))
    ∗ (bigSep Finset.univ fun d : Dev nD => reached ER (barCell d) 0)
    ∗ (bigSep Finset.univ fun ak : Fin 4 × Fin 32 => reached ER (cellAt c ak) 0)
    ∗ levAts L lv)

instance ctx_persistent : BI.Persistent (ctx X K c) := by unfold ctx; infer_instance

theorem ctx_bar (d : Dev nD) : ctx X K c ⊢ cellInv ER (talkRd X) (K (d, none)) (barCell d) := by
  have h : bigSep Finset.univ (fun d : Dev nD => cellInv ER (talkRd X) (K (d, none)) (barCell d)) ⊢ cellInv ER (talkRd X) (K (d, none)) (barCell d) := bigSep_elim (Finset.mem_univ d)
  unfold ctx; iintro ⟨H, -, -, -, -⟩; iapply h; iexact H
theorem ctx_cell (x : Dev nD × (Fin 4 × Fin 32)) : ctx X K c ⊢ cellInv ER (talkRd X) (K (x.1, some x.2)) (cellAt x.1 x.2) := by
  have h : bigSep Finset.univ (fun x : Dev nD × (Fin 4 × Fin 32) => cellInv ER (talkRd X) (K (x.1, some x.2)) (cellAt x.1 x.2)) ⊢ cellInv ER (talkRd X) (K (x.1, some x.2)) (cellAt x.1 x.2) := bigSep_elim (Finset.mem_univ x)
  unfold ctx; iintro ⟨-, H, -, -, -⟩; iapply h; iexact H
theorem ctx_rbar (d : Dev nD) : ctx X K c ⊢ reached ER (barCell d) 0 := by
  have h : bigSep Finset.univ (fun d : Dev nD => (reached ER (barCell d) 0 : sProp 𝕄)) ⊢ reached ER (barCell d) 0 := bigSep_elim (Finset.mem_univ d)
  unfold ctx; iintro ⟨-, -, H, -, -⟩; iapply h; iexact H
theorem ctx_reached (ak : Fin 4 × Fin 32) : ctx X K c ⊢ reached ER (cellAt c ak) 0 := by
  have h : bigSep Finset.univ (fun ak : Fin 4 × Fin 32 => (reached ER (cellAt c ak) 0 : sProp 𝕄)) ⊢ reached ER (cellAt c ak) 0 := bigSep_elim (Finset.mem_univ ak)
  unfold ctx; iintro ⟨-, -, -, H, -⟩; iapply h; iexact H
theorem ctx_lev : ctx X K c ⊢ levAts L lv := by
  unfold ctx; iintro ⟨-, -, -, -, H⟩; iexact H

/-- The device, still owing `O`. -/
def st (O : CellTallies nD τ sig Unit) : sProp 𝕄 := iprop(ctx X K c ∗ ∃ W, owes (c : Thread nD τ) O W)

theorem owing_cons (f : Fin 31 → CellTallies nD τ sig Unit) (r : Fin 31) (l : List (Fin 31)) (O : CellTallies nD τ sig Unit) :
    owing f (r :: l) + O = (owing f l + O) + f r := by
  unfold owing; rw [List.map_cons, List.sum_cons, add_comm (f r), add_right_comm]

/-- One signal of the handshake. -/
theorem sig_step (O : CellTallies nD τ sig Unit) (r : Fin 31) (l : List (Fin 31)) :
    iprop(st X K c (owing (barDue c) (r :: l) + O)
        ∗ (dutyTok ER (barCell (sh c r)) 0 r.rev ∗ (∃ f, slotPts c r.succ f) ∗ ∃ f, agPts c (sh c r) fullShare f))
      ⊢ wpB c (sigOp c r) (fun _ => iprop(st X K c (owing (barDue c) l + O) ∗ emp)) := by
  unfold sigOp wpB
  simp only [semSignalWord, Prog.lift]
  rw [sigDev_eq]
  unfold st
  iintro ⟨⟨#Hc, ⟨%W, HO⟩⟩, Ht, Hs, Hg⟩
  ihave #HI := (ctx_bar X K c (sh c r)) $$ Hc
  ihave #HR := (ctx_rbar X K c (sh c r)) $$ Hc
  ihave #H1 := (ctx_reached X K c (1, r.succ)) $$ Hc
  ihave #H3 := (ctx_reached X K c (3, r.succ)) $$ Hc
  iapply (Rounds.wp_signal 𝒱₀ ER (talkRd X) (c : Thread nD τ) none (dst := (sh c r : Thread nD τ)) (r := 0) (d := r.rev) (κ := K (sh c r, none))
      (by rw [duties_bar]; exact Finset.mem_univ _) ((amount_bar X (sh c r) r.rev).trans (by decide)) () (owing (barDue c) l + O) (owing_cons _ _ _ _))
    $$ [HO Ht Hs Hg]
  · isplitr; · iexact HI
    isplitl [HO]; · iexact HO
    isplitl [Ht]; · iexact Ht
    isplitl [Hs Hg]
    · rw [payload_bar]; unfold barPay; rw [sh_rev, Fin.rev_rev]
      isplitl [Hs]; · iexact Hs
      isplitl [Hg]; · iexact Hg
      isplitr; · iexact H1
      iexact H3
    · iexact HR
  iintro HO
  rw [wp_ret]; imodintro
  isplitl [HO]
  · isplitr; · iexact Hc
    iexists W; iexact HO
  · iempintro

set_option maxRecDepth 20000

/-- The wait for the others' signals. -/
theorem bar_wait (O : CellTallies nD τ sig Unit) (hO : LandOnly O) {α : Type} {k : PUnit → Prog (TpuEff nD τ sig (Elt F) Λ₀ .tc) α} {Q : α → sProp 𝕄} :
    iprop(st X K c O ∗ cred (tallyAt (barCell c) () 31) ∗ atPos ER (barCell c) 0 ∅ 0)
      ⊢ iprop((st X K c O ∗ atPos ER (barCell c) 1 ∅ 0 ∗ (bigSep Finset.univ fun r => barPay c r) -∗ wpB c (k ⟨⟩) Q)
        -∗ wpB c (semWaitWord barS 31#32 >>= k) Q) := by
  unfold wpB
  simp only [semWaitWord, Prog.lift, Prog.bind_op, Prog.bind_ret, Prog.pure_eq_ret]
  unfold st
  iintro ⟨⟨#Hc, ⟨%W, HO⟩⟩, Hcr, Hat⟩ Hk
  ihave #HI := (ctx_bar X K c c) $$ Hc
  iapply (Rounds.wp_wait_rest_token 𝒱₀ ER (talkRd X) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hcr HO Hat]
  · isplitr; · iexact HI
    isplitl [Hcr]; · iexact Hcr
    isplitl [HO]; · iexact HO
    isplitr; · iapply ((ctx_lev X K c).trans (mayWait_bar c hO)); iexact Hc
    iexact Hat
  iintro ⟨HO, Hat, -, Hpay⟩
  ihave Hp := (Entails.of_eq (rest_bar X c)) $$ Hpay
  iapply Hk
  isplitl [HO]
  · isplitr; · iexact Hc
    iexists _; iexact HO
  isplitl [Hat]; · iexact Hat
  iexact Hp

/-- One wait on a transfer's cell. -/
theorem dma_wait (a : Fin 4) (r : Fin 31) (O : CellTallies nD τ sig Unit) (hO : (levAts L lv : sProp 𝕄) ⊢ MayWait (c : Thread nD τ) (osem (a, r.succ)) () O)
    {w : TpuEff nD τ sig (Elt F) Λ₀ .tc PUnit} (hw : ∀ Q : PUnit → sProp 𝕄, wpE (defs₀ (F := F)) 𝒱₀ (c : Thread nD τ) none Set.univ w Q
      = waitSpec (c : Thread nD τ) Set.univ (osem (a, r.succ)) N Q) :
    iprop(st X K c O ∗ (cred (tallyAt (cellAt c (a, r.succ)) () N) ∗ atPos ER (cellAt c (a, r.succ)) 0 ∅ 0))
      ⊢ wpB c (Prog.lift w) (fun _ => iprop(st X K c O ∗ (atPos ER (cellAt c (a, r.succ)) 1 ∅ 0 ∗ dmaPay X c a.val r))) := by
  unfold wpB
  simp only [Prog.lift]
  unfold st
  iintro ⟨⟨#Hc, ⟨%W, HO⟩⟩, Hcr, Hat⟩
  ihave #HI := (ctx_cell X K c (c, (a, r.succ))) $$ Hc
  iapply (Rounds.wp_wait_rest_token 𝒱₀ ER (talkRd X) (c : Thread nD τ) none (κ := K (c, some (a, r.succ)))
      hw (Set.mem_univ _) () (O := O) (W := W) (R := 0) (m := 0) (T := ∅)
      (by rw [expect_dma, Nat.zero_add])) $$ [Hcr HO Hat]
  · isplitr; · iexact HI
    isplitl [Hcr]; · iexact Hcr
    isplitl [HO]; · iexact HO
    isplitr; · iapply ((ctx_lev X K c).trans hO); iexact Hc
    iexact Hat
  iintro ⟨HO, Hat, -, Hpay⟩
  ihave Hp := (Entails.of_eq (rest_dma X c a r)) $$ Hpay
  rw [wp_ret]; imodintro
  isplitl [HO]
  · isplitr; · iexact Hc
    iexists _; iexact HO
  isplitl [Hat]; · iexact Hat
  iexact Hp

theorem rsWait_step (O : CellTallies nD τ sig Unit) (hO : AgOnly O) (r : Fin 31) (l : List (Fin 31)) :
    iprop(st X K c O ∗ (cred (tallyAt (cellAt c (1, r.succ)) () N) ∗ atPos ER (cellAt c (1, r.succ)) 0 ∅ 0))
      ⊢ wpB c (rsWait r) (fun _ => iprop(st X K c O ∗ (atPos ER (cellAt c (1, r.succ)) 1 ∅ 0 ∗ slotPts c r.succ (slotF X c)))) :=
  dma_wait X K c 1 r O (mayWait_rs c r.succ hO) (wpE_waitDma2_eq 𝒱₀ (c : Thread nD τ) none Set.univ)
theorem mayWait_none (c : Dev nD) (sm : SemLoc sig) : (levAts L lv : sProp 𝕄) ⊢ MayWait (c : Thread nD τ) sm () 0 := by
  rw [MayWait_zero]; iintro -; iempintro
theorem agWait_step (r : Fin 31) (l : List (Fin 31)) :
    iprop(st X K c 0 ∗ (cred (tallyAt (cellAt c (3, r.succ)) () N) ∗ atPos ER (cellAt c (3, r.succ)) 0 ∅ 0))
      ⊢ wpB c (agWait r) (fun _ => iprop(st X K c 0 ∗ (atPos ER (cellAt c (3, r.succ)) 1 ∅ 0 ∗ agPts c (sh c r) fullShare (gathF X)))) :=
  dma_wait X K c 3 r 0 (mayWait_none c _) (wpE_waitDma2_eq 𝒱₀ (c : Thread nD τ) none Set.univ)
theorem rsDone_step (r : Fin 31) (l : List (Fin 31)) :
    iprop(st X K c 0 ∗ (cred (tallyAt (cellAt c (0, r.succ)) () N) ∗ atPos ER (cellAt c (0, r.succ)) 0 ∅ 0))
      ⊢ wpB c (rsDone c r) (fun _ => iprop(st X K c 0 ∗ (atPos ER (cellAt c (0, r.succ)) 1 ∅ 0 ∗ sbPts c (sh c r) (sbF X c)))) :=
  dma_wait X K c 0 r 0 (mayWait_none c _) (wpE_waitDma2_eq 𝒱₀ (c : Thread nD τ) none Set.univ)
theorem agDone_step (r : Fin 31) (l : List (Fin 31)) :
    iprop(st X K c 0 ∗ (cred (tallyAt (cellAt c (2, r.succ)) () N) ∗ atPos ER (cellAt c (2, r.succ)) 0 ∅ 0))
      ⊢ wpB c (agDone c r) (fun _ => iprop(st X K c 0 ∗ (atPos ER (cellAt c (2, r.succ)) 1 ∅ 0 ∗ agPts c c (lent r.val) (gathF X)))) :=
  dma_wait X K c 2 r 0 (mayWait_none c _) (wpE_waitDma2_eq 𝒱₀ (c : Thread nD τ) none Set.univ)

/-! ## The transfers -/

theorem sbPts_eq (d : Dev nD) (f : Vec F S512x512 .bf16) :
    (sbPts c d f : sProp 𝕄) = ((rowM bufM d).view.loc (c : Thread nD τ) ↦[(rowM bufM d).view.set]{fullShare} f) := by unfold sbPts; rw [buf_set]
theorem agPts_eq (d : Dev nD) (q : PosShare TreeShare) (f : Vec F S512x512 .bf16) :
    (agPts c d q f : sProp 𝕄) = ((rowM agM d).view.loc (c : Thread nD τ) ↦[(rowM agM d).view.set]{q} f) := by unfold agPts; rw [ag_set]
theorem slotPts_eq (k : Fin 32) (f : Vec F S32x16x512 .bf16) :
    (slotPts c k f : sProp 𝕄) = ((slotM k).view.loc (c : Thread nD τ) ↦[(slotM k).view.set]{fullShare} f) := by unfold slotPts; rw [slot_set]

set_option maxHeartbeats 1000000

/-- One transfer of the first exchange. -/
theorem rsSend_step (O : CellTallies nD τ sig Unit) (r : Fin 31) (l : List (Fin 31)) {src : Memref sig .tc .vmem S16x512 .bf16} (hs : src = rowM bufM (sh c r))
    {n : Dev nD} (hn : n = sh c r) {hsc : (slotM r.rev.succ : Memref sig (Dev.tc n : Thread nD τ).2.kind .vmem S16x512 .bf16).view.ref.isScScratch = false}
    {hsrc : src.view.WordExact} {hdst : (slotM r.rev.succ : Memref sig (Dev.tc n : Thread nD τ).2.kind .vmem S16x512 .bf16).view.WordExact}
    {hsem : DmaTarget.Typed .vmem (.dma (semAt cc0_scratch5 r.rev.succ)) (.remote (Dev.tc n : Thread nD τ) (slotM r.rev.succ) (.dma (semAt cc0_scratch4 r.succ)) hsc)} :
    iprop(st X K c (owing (rsDue c) (r :: l) + O)
        ∗ (sbPts c (sh c r) (sbF X c) ∗ (∃ f, slotPts (sh c r) r.rev.succ f) ∗ dutyTok ER (cellAt c (0, r.succ)) 0 0
          ∗ dutyTok ER (cellAt (sh c r) (1, r.rev.succ)) 0 0 ∗ reached ER (cellAt (sh c r) (1, r.rev.succ)) 0))
      ⊢ wpB c (Prog.lift (.enqueueDma src (.remote (Dev.tc n : Thread nD τ) (slotM r.rev.succ) (.dma (semAt cc0_scratch4 r.succ)) hsc) (.dma (semAt cc0_scratch5 r.rev.succ)) hsrc hdst hsem))
        (fun _ => iprop(st X K c (owing (rsDue c) l + O) ∗ cred (tallyAt (cellAt c (0, r.succ)) () N))) := by
  subst hs hn
  unfold wpB
  simp only [Prog.lift]
  unfold st
  iintro ⟨⟨#Hc, ⟨%W, HO⟩⟩, Hsb, ⟨%fd, Hsl⟩, Ht0, Ht1, #Hr1⟩
  ihave #HI0 := (ctx_cell X K c (c, (0, r.succ))) $$ Hc
  ihave #HI1 := (ctx_cell X K c (sh c r, (1, r.rev.succ))) $$ Hc
  ihave #Hr0 := (ctx_reached X K c (0, r.succ)) $$ Hc
  ihave Hsb := (Entails.of_eq (sbPts_eq c (sh c r) (sbF X c))) $$ Hsb
  ihave Hsl := (Entails.of_eq (slotPts_eq (sh c r) r.rev.succ fd)) $$ Hsl
  iapply (Rounds.wp_send_pointsTo 𝒱₀ ER (talkRd X) (c : Thread nD τ) none (κ₁ := K (c, some (0, r.succ))) (κ₂ := K (sh c r, some (1, r.rev.succ)))
      (r₁ := 0) (r₂ := 0) (d₁ := 0) (d₂ := 0) (fd := fd)
      (by rw [duties_dma X c 0 r]; exact Finset.mem_singleton_self _) (by rw [duties_dma X (sh c r) 1 r.rev]; exact Finset.mem_singleton_self _)
      () () N (show (slotM r.rev.succ).view.amount (.dma (semAt cc0_scratch5 r.rev.succ)) = N from rfl) (amount_dma X c (0, r.succ) 0) (amount_dma X (sh c r) (1, r.rev.succ) 0) (owing (rsDue c) l + O) (owing_cons _ _ _ _) (W := W)
      (by rw [payload_dma X c 0 r]; exact Entails.of_eq (sbPts_eq c (sh c r) _).symm)
      (by
        rw [payload_dma X (sh c r) 1 r.rev]
        refine Entails.of_eq ?_
        show _ = slotPts (sh c r) r.rev.succ (slotF X (sh c r))
        rw [slotPts_eq]
        exact pointsTo_congr fun i hi => slot_landed X c r fd i (by rw [← slot_set]; exact hi)))
    $$ [Hsb Hsl HO Ht0 Ht1]
  · isplitr; · iexact HI0
    isplitr; · iexact HI1
    isplitl [Hsb]; · iexact Hsb
    isplitl [Hsl]; · iexact Hsl
    isplitl [HO]; · iexact HO
    isplitl [Ht0]; · iexact Ht0
    isplitr; · iexact Hr0
    isplitl [Ht1]; · iexact Ht1
    iexact Hr1
  iintro ⟨Hcr, HO⟩
  rw [wp_ret]; imodintro
  isplitl [HO]
  · isplitr; · iexact Hc
    iexists W; iexact HO
  iexact Hcr

/-- One transfer of the second exchange. -/
theorem agSend_step (O : CellTallies nD τ sig Unit) (r : Fin 31) (l : List (Fin 31)) {src : Memref sig .tc .vmem S16x512 .bf16} (hs : src = rowM agM c)
    {n : Dev nD} (hn : n = sh c r) {hsc : (src : Memref sig (Dev.tc n : Thread nD τ).2.kind .vmem S16x512 .bf16).view.ref.isScScratch = false}
    {hsrc : src.view.WordExact} {hdst : (src : Memref sig (Dev.tc n : Thread nD τ).2.kind .vmem S16x512 .bf16).view.WordExact}
    {hsem : DmaTarget.Typed .vmem (.dma (semAt cc0_scratch7 r.rev.succ)) (.remote (Dev.tc n : Thread nD τ) src (.dma (semAt cc0_scratch6 r.succ)) hsc)} :
    iprop(st X K c (owing (agDue c) (r :: l) + O)
        ∗ (agPts c c (lent r.val) (gathF X) ∗ (∃ f, agPts (sh c r) c fullShare f) ∗ dutyTok ER (cellAt c (2, r.succ)) 0 0
          ∗ dutyTok ER (cellAt (sh c r) (3, r.rev.succ)) 0 0 ∗ reached ER (cellAt (sh c r) (3, r.rev.succ)) 0))
      ⊢ wpB c (Prog.lift (.enqueueDma src (.remote (Dev.tc n : Thread nD τ) src (.dma (semAt cc0_scratch6 r.succ)) hsc) (.dma (semAt cc0_scratch7 r.rev.succ)) hsrc hdst hsem))
        (fun _ => iprop(st X K c (owing (agDue c) l + O) ∗ cred (tallyAt (cellAt c (2, r.succ)) () N))) := by
  subst hs hn
  unfold wpB
  simp only [Prog.lift]
  unfold st
  iintro ⟨⟨#Hc, ⟨%W, HO⟩⟩, Hsb, ⟨%fd, Hsl⟩, Ht0, Ht1, #Hr1⟩
  ihave #HI0 := (ctx_cell X K c (c, (2, r.succ))) $$ Hc
  ihave #HI1 := (ctx_cell X K c (sh c r, (3, r.rev.succ))) $$ Hc
  ihave #Hr0 := (ctx_reached X K c (2, r.succ)) $$ Hc
  ihave Hsb := (Entails.of_eq (agPts_eq c c (lent r.val) (gathF X))) $$ Hsb
  ihave Hsl := (Entails.of_eq (agPts_eq (sh c r) c fullShare fd)) $$ Hsl
  iapply (Rounds.wp_send_pointsTo 𝒱₀ ER (talkRd X) (c : Thread nD τ) none (κ₁ := K (c, some (2, r.succ))) (κ₂ := K (sh c r, some (3, r.rev.succ)))
      (r₁ := 0) (r₂ := 0) (d₁ := 0) (d₂ := 0) (fd := fd)
      (by rw [duties_dma X c 2 r]; exact Finset.mem_singleton_self _) (by rw [duties_dma X (sh c r) 3 r.rev]; exact Finset.mem_singleton_self _)
      () () N (show (rowM agM c).view.amount (.dma (semAt cc0_scratch7 r.rev.succ)) = N from rfl) (amount_dma X c (2, r.succ) 0) (amount_dma X (sh c r) (3, r.rev.succ) 0) (owing (agDue c) l + O) (owing_cons _ _ _ _) (W := W)
      (by rw [payload_dma X c 2 r]; exact Entails.of_eq (agPts_eq c c _ _).symm)
      (by
        rw [payload_dma X (sh c r) 3 r.rev]
        refine Entails.of_eq ?_
        show _ = agPts (sh c r) (sh (sh c r) r.rev) fullShare (gathF X)
        rw [sh_rev, agPts_eq]
        exact pointsTo_congr fun i hi => gath_landed c fd (gathF X) i (by rw [← ag_set]; exact hi)))
    $$ [Hsb Hsl HO Ht0 Ht1]
  · isplitr; · iexact HI0
    isplitr; · iexact HI1
    isplitl [Hsb]; · iexact Hsb
    isplitl [Hsl]; · iexact Hsl
    isplitl [HO]; · iexact HO
    isplitl [Ht0]; · iexact Ht0
    isplitr; · iexact Hr0
    isplitl [Ht1]; · iexact Ht1
    iexact Hr1
  iintro ⟨Hcr, HO⟩
  rw [wp_ret]; imodintro
  isplitl [HO]
  · isplitr; · iexact Hc
    iexists W; iexact HO
  iexact Hcr

end Body

end Cert.AllReduce

end
-- ==== Proof.Phases.lean ====
/-
The stretches of the body between the loops: the cast to the send buffer, the sum, the result; and how the arrays come
apart into the devices' rows, and together again.
-/
module

public import proofs.«01_k».proof.Proof.Steps

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Arrays and their rows -/

theorem rowS_all (x : S512x512.Idx) : ∃ d : Dev nD, x ∈ rowS d := by
  have h : x ∈ (Finset.univ : Finset (Dev nD)).biUnion rowS := by rw [rowS_univ]; exact Finset.mem_univ x
  obtain ⟨d, -, h⟩ := Finset.mem_biUnion.mp h
  exact ⟨d, h⟩
theorem slotS_all (x : S32x16x512.Idx) : ∃ k : Fin 32, x ∈ slotS k := by
  have h : x ∈ (Finset.univ : Finset (Fin 32)).biUnion slotS := by rw [slotS_univ]; exact Finset.mem_univ x
  obtain ⟨d, -, h⟩ := Finset.mem_biUnion.mp h
  exact ⟨d, h⟩

section Split
variable (c : Dev nD)

omit [FloatOps F] in
theorem dev_split (Φ : Dev nD → sProp 𝕄) : bigSep Finset.univ Φ = iprop(Φ c ∗ bigSep Finset.univ fun r : Fin 31 => Φ (sh c r)) := by
  rw [bigSep_univ_at Φ c, univ_dev, bigSep_map]; rfl
omit [FloatOps F] in
theorem slot_split (Φ : Fin 32 → sProp 𝕄) : bigSep Finset.univ Φ = iprop(Φ 0 ∗ bigSep Finset.univ fun r : Fin 31 => Φ r.succ) := by
  rw [bigSep_univ_at Φ 0, univ_slot, bigSep_map]; rfl

omit [FloatOps F] in
/-- A whole array as one of its parts and the 31 others. -/
theorem parts_split {I : Type} [Fintype I] {ℓ : Loc nD τ sig} {q : PosShare TreeShare} {f : Buf (Elt F) ℓ} (K : I → Finset (Idx ℓ))
    (hd : ∀ d e : I, d ≠ e → Disjoint (K d) (K e)) (hu : ∀ x : Idx ℓ, ∃ d, x ∈ K d) (i : I) (j : Fin 31 → I)
    (hj : ∀ Φ : I → sProp 𝕄, bigSep Finset.univ Φ = iprop(Φ i ∗ bigSep Finset.univ fun r => Φ (j r))) :
    (ℓ ↦{q} f : sProp 𝕄) = iprop((ℓ ↦[K i]{q} f) ∗ bigSep Finset.univ fun r : Fin 31 => ℓ ↦[K (j r)]{q} f) := by
  have hu' : (Finset.univ : Finset I).biUnion K = Finset.univ := by
    ext x; simp only [Finset.mem_biUnion, Finset.mem_univ, true_and, iff_true]; exact hu x
  rw [← hu', pointsTo_biUnion Finset.univ K fun t _ t' _ h => hd t t' h, hj]

omit [FloatOps F] in
/-- Disjoint parts as one set of elements. -/
theorem parts_union {I : Type} [Fintype I] {ℓ : Loc nD τ sig} {q : PosShare TreeShare} {f : Buf (Elt F) ℓ} (K : I → Finset (Idx ℓ))
    (hd : ∀ d e : I, d ≠ e → Disjoint (K d) (K e)) :
    ∃ S : Finset (Idx ℓ), (∀ x r, x ∈ K r → x ∈ S) ∧ (bigSep Finset.univ fun t : I => ℓ ↦[K t]{q} f : sProp 𝕄) = (ℓ ↦[S]{q} f) :=
  ⟨Finset.univ.biUnion K, fun x r h => Finset.mem_biUnion.mpr ⟨r, Finset.mem_univ r, h⟩, (pointsTo_biUnion Finset.univ K fun t _ t' _ h => hd t t' h).symm⟩

omit [FloatOps F] in
theorem buf_rows (f : Vec F S512x512 .bf16) :
    (((c : Thread nD τ).loc cc0_scratch0) ↦{fullShare} f : sProp 𝕄) = iprop(sbPts c c f ∗ bigSep Finset.univ fun r : Fin 31 => sbPts c (sh c r) f) :=
  parts_split (ℓ := (c : Thread nD τ).loc cc0_scratch0) rowS (fun _ _ h => rowS_disjoint h) rowS_all c (sh c) (dev_split c)

omit [FloatOps F] in
theorem ag_rows (q : PosShare TreeShare) (f : Vec F S512x512 .bf16) :
    (((c : Thread nD τ).loc cc0_scratch2) ↦{q} f : sProp 𝕄) = iprop(agPts c c q f ∗ bigSep Finset.univ fun r : Fin 31 => agPts c (sh c r) q f) :=
  parts_split (ℓ := (c : Thread nD τ).loc cc0_scratch2) rowS (fun _ _ h => rowS_disjoint h) rowS_all c (sh c) (dev_split c)

omit [FloatOps F] in
theorem slots_split (f : Vec F S32x16x512 .bf16) :
    (((c : Thread nD τ).loc cc0_scratch1) ↦{fullShare} f : sProp 𝕄) = iprop(slotPts c 0 f ∗ bigSep Finset.univ fun r : Fin 31 => slotPts c r.succ f) :=
  parts_split (ℓ := (c : Thread nD τ).loc cc0_scratch1) slotS (fun _ _ h => slotS_disjoint h) slotS_all 0 Fin.succ slot_split

omit [FloatOps F] in
theorem slots_join (f₀ f : Vec F S32x16x512 .bf16) :
    iprop(slotPts c 0 f₀ ∗ bigSep Finset.univ fun r : Fin 31 => slotPts c r.succ f) ⊢ (∃ g, ((c : Thread nD τ).loc cc0_scratch1) ↦{fullShare} g : sProp 𝕄) := by
  let g : Vec F S32x16x512 .bf16 := fun i => if i ∈ slotS 0 then f₀ i else f i
  have h0 : (slotPts c 0 f₀ : sProp 𝕄) = slotPts c 0 g := pointsTo_congr fun i hi => (if_pos hi).symm
  have h1 : ∀ r : Fin 31, (slotPts c r.succ f : sProp 𝕄) = slotPts c r.succ g := fun r =>
    pointsTo_congr fun i hi => (if_neg fun h => Finset.disjoint_left.mp (slotS_disjoint (Fin.succ_ne_zero r)) hi h).symm
  rw [h0, bigSep_congr fun r _ => h1 r, ← slots_split c g]
  iintro H
  iexists g
  iexact H

omit [FloatOps F] in
theorem kept_range (d : Dev nD) (f : Vec F S512x512 .bf16) (n : ℕ) :
    (agPts c d fullShare f : sProp 𝕄) = iprop(agPts c d (kept n) f ∗ bigSep (Finset.range n) fun k => agPts c d (lent k) f) := by
  induction n with
  | zero => rw [Finset.range_zero, bigSep_empty]; exact (BI.sep_emp.2).antisymm BI.sep_emp.1
  | succ n ih =>
    have h : (agPts c d (kept n) f : sProp 𝕄) = iprop(agPts c d (kept (n + 1)) f ∗ agPts c d (lent n) f) := by
      have h := pointsTo_share (Ix := Unit) (Name := ℕ) (U := UU) (Lvl := ℕ) (ℓ := (c : Thread nD τ).loc cc0_scratch2) (I := rowS d) (f := f) (PosShare.mem_left_op_right (kept n))
      exact h.1.antisymm h.2
    rw [ih, h, Finset.range_add_one, bigSep_insert Finset.notMem_range_self]
    exact BI.sep_assoc.antisymm BI.sep_assoc'

omit [FloatOps F] in
theorem kept_all (d : Dev nD) (f : Vec F S512x512 .bf16) :
    (agPts c d fullShare f : sProp 𝕄) = iprop(agPts c d (kept 31) f ∗ bigSep Finset.univ fun r : Fin 31 => agPts c d (lent r.val) f) := by
  rw [kept_range c d f 31, show Finset.range 31 = (Finset.univ : Finset (Fin 31)).map Fin.valEmbedding by decide, bigSep_map]
  rfl

end Split

/-! ## The stretches between the loops -/

/-- A stretch and what follows it. -/
theorem wp_then (c : Dev nD) {α β : Type} {p : Prog (TpuEff nD τ sig (Elt F) Λ₀ .tc) α} {P : sProp 𝕄} {R : α → sProp 𝕄} (h : P ⊢ wpB c p R)
    {k : α → Prog (TpuEff nD τ sig (Elt F) Λ₀ .tc) β} {Q : β → sProp 𝕄} : P ⊢ iprop((∀ a, R a -∗ wpB c (k a) Q) -∗ wpB c (p >>= k) Q) := by
  unfold wpB; rw [wp_bind]
  iintro H Hk
  ihave H := h $$ H
  iapply (wp_wand frame _ _) $$ H
  iintro %u H
  iapply Hk; iexact H

section Stretch
variable (X : Dev nD → Vec F S512x512 .f32) (c : Dev nD)

theorem hz2 : (![0, 0] : Fin 2 → Nat) = fun _ => 0 := funext fun a => by fin_cases a <;> rfl

/-- Device `c`'s whole array in `b`. -/
abbrev pts (b : Ref sig .tc) (q : PosShare TreeShare) (f : Buf (Elt F) ((c : Thread nD τ).loc b)) : sProp 𝕄 := ((c : Thread nD τ).loc b) ↦{q} f

theorem cast_ok (x : Vec F S512x512 .f32) :
    iprop(pts c cc0_stg0_0 fullShare x ∗ (∃ f, pts c cc0_scratch0 fullShare f))
      ⊢ wpB c castP (fun _ => iprop(pts c cc0_stg0_0 fullShare x ∗ pts c cc0_scratch0 fullShare (k0_pay1 x : Vec F S512x512 .bf16))) := by
  unfold castP wpB
  simp only [Prog.lift, Prog.bind_op, Prog.bind_ret, Prog.pure_eq_ret]
  iintro ⟨Hx, ⟨%f, Hb⟩⟩
  iapply (wp_load 𝒱₀ (c : Thread nD τ) none Set.univ (m := inM) (Finset.subset_univ _)) $$ [Hx]
  · iexact Hx
  iintro Hx
  iapply (wp_load 𝒱₀ (c : Thread nD τ) none Set.univ (m := bufM) (Finset.subset_univ _)) $$ [Hb]
  · iexact Hb
  iintro Hb
  iapply (wp_store 𝒱₀ (c : Thread nD τ) none Set.univ (m := bufM) (r := allR) (Mk := Finset.univ) (Finset.subset_univ _)) $$ [Hb]
  · iexact Hb
  iintro Hb
  rw [wp_ret]; imodintro
  isplitl [Hx]; · iexact Hx
  rw [show (bufM.access allR : View sig .tc _ _ _).write (Elt F) f (k0_pay1 (inM.view.readAt (Elt F) allR.toLoadRect x)) Finset.univ = (k0_pay1 x : Vec F S512x512 .bf16) from by
    have h : inM.view.readAt (Elt F) allR.toLoadRect x = x := Memref.readAt_unit_zero (Elt F) cc0_stg0_0 hz2 _ x
    rw [h]; exact Memref.write_access_unit_zero_univ (Elt F) cc0_scratch0 hz2 _ f _]
  iexact Hb

theorem out_ok (q : PosShare TreeShare) (g : Vec F S512x512 .bf16) :
    iprop(pts c cc0_scratch2 q g ∗ (∃ f, pts c cc0_stg1_0 fullShare f))
      ⊢ wpB c outP (fun _ => iprop(pts c cc0_scratch2 q g ∗ pts c cc0_stg1_0 fullShare (k0_pay4 g : Vec F S512x512 .f32))) := by
  unfold outP wpB
  simp only [Prog.lift, Prog.bind_op, Prog.bind_ret, Prog.pure_eq_ret]
  iintro ⟨Hx, ⟨%f, Hb⟩⟩
  iapply (wp_load 𝒱₀ (c : Thread nD τ) none Set.univ (m := agM) (Finset.subset_univ _)) $$ [Hx]
  · iexact Hx
  iintro Hx
  iapply (wp_load 𝒱₀ (c : Thread nD τ) none Set.univ (m := outM) (Finset.subset_univ _)) $$ [Hb]
  · iexact Hb
  iintro Hb
  iapply (wp_store 𝒱₀ (c : Thread nD τ) none Set.univ (m := outM) (r := allR) (Mk := Finset.univ) (Finset.subset_univ _)) $$ [Hb]
  · iexact Hb
  iintro Hb
  rw [wp_ret]; imodintro
  isplitl [Hx]; · iexact Hx
  rw [show (outM.access allR : View sig .tc _ _ _).write (Elt F) f (k0_pay4 (agM.view.readAt (Elt F) allR.toLoadRect g)) Finset.univ = (k0_pay4 g : Vec F S512x512 .f32) from by
    have h : agM.view.readAt (Elt F) allR.toLoadRect g = g := Memref.readAt_unit_zero (Elt F) cc0_scratch2 hz2 _ g
    rw [h]; exact Memref.write_access_unit_zero_univ (Elt F) cc0_stg1_0 hz2 _ f _]
  iexact Hb

theorem rows_store : ((agM.access (rowsR c) : View sig .tc _ _ _).setOn Finset.univ : Finset S512x512.Idx) ⊆ rowS c := by
  rw [show rowS c = (rowsR c).set by rw [rowsR_eq]]; exact (View.set_slice_whole _ _).le
theorem rows_load : (agM.view.setOn (rowsR c).toLoadRect.set : Finset S512x512.Idx) ⊆ rowS c := by
  rw [show rowS c = (rowsR c).set by rw [rowsR_eq]]
  intro i hi
  obtain ⟨j, hj, rfl⟩ := Finset.mem_map.mp hi
  exact hj

set_option maxRecDepth 20000 in
theorem sum_ok :
    iprop(pts c cc0_stg0_0 fullShare (X c) ∗ (bigSep Finset.univ fun r : Fin 31 => slotPts c r.succ (slotF X c)) ∗ (∃ f, pts c cc0_scratch3 fullShare f)
        ∗ (∃ f, agPts c c fullShare f))
      ⊢ wpB c (sumP c) (fun _ => iprop(pts c cc0_stg0_0 fullShare (X c) ∗ (bigSep Finset.univ fun r : Fin 31 => slotPts c r.succ (slotF X c))
        ∗ (∃ f, pts c cc0_scratch3 fullShare f) ∗ agPts c c fullShare (gathF X))) := by
  obtain ⟨S, hS, hj⟩ := parts_union (F := F) (ℓ := (c : Thread nD τ).loc cc0_scratch1) (q := fullShare) (f := slotF X c) (fun r : Fin 31 => slotS r.succ)
    fun d e h => slotS_disjoint fun h' => h (Fin.succ_injective _ h')
  have hj' : (bigSep Finset.univ fun r : Fin 31 => slotPts c r.succ (slotF X c) : sProp 𝕄) = (((c : Thread nD τ).loc cc0_scratch1) ↦[S]{fullShare} slotF X c) := hj
  have hS' : (slotsM.view.setOn slotsR.toLoadRect.set : Finset S32x16x512.Idx) ⊆ S := fun x hx => by
    obtain ⟨r, -, h⟩ := Finset.mem_biUnion.mp (slots_load_subset hx)
    exact hS x r h
  rw [hj']
  unfold sumP wpB
  simp only [Prog.lift, Prog.bind_op, Prog.bind_ret, Prog.pure_eq_ret]
  unfold agPts
  iintro ⟨Hx, Hs, ⟨%f, Hr⟩, ⟨%g, Ha⟩⟩
  iapply (wp_load 𝒱₀ (c : Thread nD τ) none Set.univ (m := inM) (Finset.subset_univ _)) $$ [Hx]
  · iexact Hx
  iintro Hx
  iapply (wp_load 𝒱₀ (c : Thread nD τ) none Set.univ (m := slotsM) hS') $$ [Hs]
  · iexact Hs
  iintro Hs
  iapply (wp_load 𝒱₀ (c : Thread nD τ) none Set.univ (m := redM) (Finset.subset_univ _)) $$ [Hr]
  · iexact Hr
  iintro Hr
  iapply (wp_store 𝒱₀ (c : Thread nD τ) none Set.univ (m := redM) (r := redR) (Mk := Finset.univ) (Finset.subset_univ _)) $$ [Hr]
  · iexact Hr
  iintro Hr
  rw [show (redM.access redR : View sig .tc _ _ _).write (Elt F) f (k0_pay2 (inM.view.readAt (Elt F) (rowsR c).toLoadRect (X c)) (slotsM.view.readAt (Elt F) slotsR.toLoadRect (slotF X c))) Finset.univ
      = (redF X c : Vec F S16x512 .f32) from Memref.write_access_unit_zero_univ (Elt F) cc0_scratch3 hz2 _ f _]
  iapply (wp_load 𝒱₀ (c : Thread nD τ) none Set.univ (m := redM) (Finset.subset_univ _)) $$ [Hr]
  · iexact Hr
  iintro Hr
  iapply (wp_load 𝒱₀ (c : Thread nD τ) none Set.univ (m := agM) (rows_load c)) $$ [Ha]
  · iexact Ha
  iintro Ha
  iapply (wp_store 𝒱₀ (c : Thread nD τ) none Set.univ (m := agM) (r := rowsR c) (Mk := Finset.univ) (rows_store c)) $$ [Ha]
  · iexact Ha
  iintro Ha
  rw [wp_ret]; imodintro
  isplitl [Hx]; · iexact Hx
  isplitl [Hs]; · iexact Hs
  isplitl [Hr]
  · iexists _; iexact Hr
  have hr : redM.view.readAt (Elt F) redR.toLoadRect (redF X c) = redF X c := Memref.readAt_unit_zero (Elt F) cc0_scratch3 hz2 _ (redF X c)
  rw [hr]
  have hg : (((c : Thread nD τ).loc cc0_scratch2) ↦[rowS c]{fullShare} ((agM.access (rowsR c) : View sig .tc _ _ _).write (Elt F) g (k0_pay3 (redF X c)) Finset.univ) : sProp 𝕄)
      = ((c : Thread nD τ).loc cc0_scratch2) ↦[rowS c]{fullShare} (gathF X) := pointsTo_congr (gath_stored X c g)
  iapply (Entails.of_eq hg)
  iexact Ha

end Stretch

end Cert.AllReduce

end
-- ==== Proof.Body.lean ====
/-
The body at a symbolic device: what it starts from and what it leaves.
-/
module

public import proofs.«01_k».proof.Proof.Phases

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Ghost
variable (c : Dev nD)

/-- A device's right to signal and to send, towards the peer at offset `r`. -/
def toks (r : Fin 31) : sProp 𝕄 :=
  iprop(dutyTok ER (barCell (sh c r)) 0 r.rev ∗ dutyTok ER (cellAt c (0, r.succ)) 0 0 ∗ dutyTok ER (cellAt (sh c r) (1, r.rev.succ)) 0 0
    ∗ dutyTok ER (cellAt c (2, r.succ)) 0 0 ∗ dutyTok ER (cellAt (sh c r) (3, r.rev.succ)) 0 0)

/-- What others owe a device. -/
def creds : sProp 𝕄 :=
  iprop(cred (tallyAt (barCell c) () 31) ∗ (bigSep Finset.univ fun r : Fin 31 => cred (tallyAt (cellAt c (1, r.succ)) () N))
    ∗ (bigSep Finset.univ fun r : Fin 31 => cred (tallyAt (cellAt c (3, r.succ)) () N)))

/-- A device at the start of its own cells. -/
def poss : sProp 𝕄 := iprop(atPos ER (barCell c) 0 ∅ 0 ∗ bigSep Finset.univ fun ak : Fin 4 × Fin 32 => atPos ER (cellAt c ak) 0 ∅ 0)

/-- A device at the end of its own cells. -/
def ends : sProp 𝕄 :=
  iprop(atPos ER (barCell c) 1 ∅ 0 ∗ bigSep Finset.univ fun a : Fin 4 => iprop(atPos ER (cellAt c (a, 0)) 0 ∅ 0
    ∗ bigSep Finset.univ fun r : Fin 31 => atPos ER (cellAt c (a, r.succ)) 1 ∅ 0))

/-- The arrays the body works in. -/
def scrs : sProp 𝕄 :=
  iprop((∃ f, pts c cc0_scratch0 fullShare f) ∗ (∃ f, pts c cc0_scratch1 fullShare f) ∗ (∃ f, pts c cc0_scratch2 fullShare f) ∗ ∃ f, pts c cc0_scratch3 fullShare f)

omit [FloatOps F] in
/-- A device's own cells, by array: the first of each apart. -/
theorem own_split (Φ : Fin 4 × Fin 32 → sProp 𝕄) :
    bigSep Finset.univ Φ = bigSep Finset.univ fun a : Fin 4 => iprop(Φ (a, 0) ∗ bigSep Finset.univ fun r : Fin 31 => Φ (a, r.succ)) := by
  rw [bigSep_univ_prod]; exact bigSep_congr fun a _ => slot_split fun k => Φ (a, k)

omit [FloatOps F] in
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide) Φ, bigSepL_cons', bigSepL_cons', bigSepL_cons', bigSepL_cons']
  show iprop(Φ 0 ∗ Φ 1 ∗ Φ 2 ∗ Φ 3 ∗ BI.emp) = _
  rw [show iprop(Φ 3 ∗ BI.emp) = Φ 3 from BI.sep_emp.1.antisymm BI.sep_emp.2]

omit [FloatOps F] in
theorem toks_split : (bigSep Finset.univ fun r => toks c r : sProp 𝕄)
    = iprop((bigSep Finset.univ fun r : Fin 31 => dutyTok ER (barCell (sh c r)) 0 r.rev) ∗ (bigSep Finset.univ fun r : Fin 31 => dutyTok ER (cellAt c (0, r.succ)) 0 0)
      ∗ (bigSep Finset.univ fun r : Fin 31 => dutyTok ER (cellAt (sh c r) (1, r.rev.succ)) 0 0) ∗ (bigSep Finset.univ fun r : Fin 31 => dutyTok ER (cellAt c (2, r.succ)) 0 0)
      ∗ bigSep Finset.univ fun r : Fin 31 => dutyTok ER (cellAt (sh c r) (3, r.rev.succ)) 0 0) := by
  unfold toks; rw [bigSep_sep', bigSep_sep', bigSep_sep', bigSep_sep']

omit [FloatOps F] in
theorem barPay_split : (bigSep Finset.univ fun r => barPay c r : sProp 𝕄)
    = iprop((bigSep Finset.univ fun r : Fin 31 => iprop(∃ f, slotPts (F := F) (sh c r) r.rev.succ f)) ∗ (bigSep Finset.univ fun r : Fin 31 => iprop(∃ f, agPts (F := F) (sh c r) c fullShare f))
      ∗ (bigSep Finset.univ fun r : Fin 31 => reached ER (cellAt (sh c r) (1, r.rev.succ)) 0) ∗ bigSep Finset.univ fun r : Fin 31 => reached ER (cellAt (sh c r) (3, r.rev.succ)) 0) := by
  unfold barPay; rw [bigSep_sep', bigSep_sep', bigSep_sep']

omit [FloatOps F] in
/-- Five families as one. -/
theorem zip5 (A B C D E : Fin 31 → sProp 𝕄) :
    iprop(bigSep Finset.univ A ∗ bigSep Finset.univ B ∗ bigSep Finset.univ C ∗ bigSep Finset.univ D ∗ bigSep Finset.univ E)
      ⊢ bigSep Finset.univ fun r => iprop(A r ∗ B r ∗ C r ∗ D r ∗ E r) := by
  rw [bigSep_sep', bigSep_sep', bigSep_sep', bigSep_sep']
omit [FloatOps F] in
theorem zip3 (A B C : Fin 31 → sProp 𝕄) :
    iprop(bigSep Finset.univ A ∗ bigSep Finset.univ B ∗ bigSep Finset.univ C) ⊢ bigSep Finset.univ fun r => iprop(A r ∗ B r ∗ C r) := by
  rw [bigSep_sep', bigSep_sep']
omit [FloatOps F] in
theorem zip2 (A B : Fin 31 → sProp 𝕄) : iprop(bigSep Finset.univ A ∗ bigSep Finset.univ B) ⊢ bigSep Finset.univ fun r => iprop(A r ∗ B r) := by
  rw [bigSep_sep']
omit [FloatOps F] in
theorem unzip2 (A B : Fin 31 → sProp 𝕄) : (bigSep Finset.univ fun r => iprop(A r ∗ B r)) ⊢ iprop(bigSep Finset.univ A ∗ bigSep Finset.univ B) := by
  rw [bigSep_sep']

omit [FloatOps F] in
theorem slots_any (f : Vec F S32x16x512 .bf16) : (bigSep Finset.univ fun r : Fin 31 => slotPts c r.succ f : sProp 𝕄)
    ⊢ bigSep Finset.univ fun r : Fin 31 => iprop(∃ f, slotPts (F := F) c r.succ f) := by
  have h (r : Fin 31) : slotPts c r.succ f ⊢ (iprop(∃ f, slotPts (F := F) c r.succ f) : sProp 𝕄) := by iintro H; iexists f; iexact H
  exact bigSep_mono fun r _ => h r
omit [FloatOps F] in
theorem ag_any (f : Vec F S512x512 .bf16) : (bigSep Finset.univ fun r : Fin 31 => agPts c (sh c r) fullShare f : sProp 𝕄)
    ⊢ bigSep Finset.univ fun r : Fin 31 => iprop(∃ f, agPts (F := F) c (sh c r) fullShare f) := by
  have h (r : Fin 31) : agPts c (sh c r) fullShare f ⊢ (iprop(∃ f, agPts (F := F) c (sh c r) fullShare f) : sProp 𝕄) := by iintro H; iexists f; iexact H
  exact bigSep_mono fun r _ => h r

end Ghost

section Body
variable (X : Dev nD → Vec F S512x512 .f32) (K : Dev nD × Option (Fin 4 × Fin 32) → ℕ) (c : Dev nD)

theorem owing_nil (f : Fin 31 → CellTallies nD τ sig Unit) (O : CellTallies nD τ sig Unit) : owing f [] + O = O := zero_add O

theorem st_nil (f : Fin 31 → CellTallies nD τ sig Unit) (O : CellTallies nD τ sig Unit) : st X K c (owing f [] + O) ⊢ st X K c O := by
  rw [owing_nil]

/-- Every block of the gathered array, a part of each share kept back. -/
theorem gath_kept (g : Vec F S512x512 .bf16) :
    iprop(agPts c c (kept 31) g ∗ bigSep Finset.univ fun r : Fin 31 => agPts c (sh c r) fullShare g)
      = iprop(pts c cc0_scratch2 (kept 31) g ∗ bigSep Finset.univ fun r : Fin 31 => bigSep Finset.univ fun s : Fin 31 => agPts c (sh c r) (lent s.val) g) := by
  rw [show pts c cc0_scratch2 (kept 31) g = _ from ag_rows c (kept 31) g]
  rw [bigSep_congr fun r _ => kept_all c (sh c r) g, bigSep_sep']
  exact BI.sep_assoc'.antisymm BI.sep_assoc

theorem cast_sb : iprop(pts c cc0_stg0_0 fullShare (X c) ∗ (∃ f, pts c cc0_scratch0 fullShare f))
    ⊢ wpB c castP (fun _ => iprop(pts c cc0_stg0_0 fullShare (X c) ∗ pts c cc0_scratch0 fullShare (sbF X c))) := cast_ok c (X c)

theorem rsSend_all (O : CellTallies nD τ sig Unit) (r : Fin 31) (l : List (Fin 31)) :
    iprop(st X K c (owing (rsDue c) (r :: l) + O)
        ∗ (sbPts c (sh c r) (sbF X c) ∗ (∃ f, slotPts (sh c r) r.rev.succ f) ∗ dutyTok ER (cellAt c (0, r.succ)) 0 0
          ∗ dutyTok ER (cellAt (sh c r) (1, r.rev.succ)) 0 0 ∗ reached ER (cellAt (sh c r) (1, r.rev.succ)) 0))
      ⊢ wpB c (rsSend c r) (fun _ => iprop(st X K c (owing (rsDue c) l + O) ∗ cred (tallyAt (cellAt c (0, r.succ)) () N))) :=
  rsSend_step X K c O r l (sbM_eq c r) (rsDev_eq r c)

theorem agSend_all (r : Fin 31) (l : List (Fin 31)) :
    iprop(st X K c (owing (agDue c) (r :: l))
        ∗ (agPts c c (lent r.val) (gathF X) ∗ (∃ f, agPts (sh c r) c fullShare f) ∗ dutyTok ER (cellAt c (2, r.succ)) 0 0
          ∗ dutyTok ER (cellAt (sh c r) (3, r.rev.succ)) 0 0 ∗ reached ER (cellAt (sh c r) (3, r.rev.succ)) 0))
      ⊢ wpB c (agSend c r) (fun _ => iprop(st X K c (owing (agDue c) l) ∗ cred (tallyAt (cellAt c (2, r.succ)) () N))) := by
  rw [← add_zero (owing (agDue c) (r :: l)), ← add_zero (owing (agDue c) l)]
  exact agSend_step X K c 0 r l (agW_eq c) (agDev_eq r c)

theorem st_done (f : Fin 31 → CellTallies nD τ sig Unit) : st X K c (owing f []) ⊢ st X K c 0 := BI.Entails.refl _

/-- What the body starts from. -/
def bodyIn : sProp 𝕄 :=
  iprop(st X K c (O₀ c) ∗ poss c ∗ (bigSep Finset.univ fun r => toks c r) ∗ creds c ∗ scrs c ∗ pts c cc0_stg0_0 fullShare (X c) ∗ ∃ f, pts c cc0_stg1_0 fullShare f)
/-- What the body leaves. -/
def bodyOut : sProp 𝕄 :=
  iprop(st X K c 0 ∗ ends c ∗ scrs c ∗ pts c cc0_stg0_0 fullShare (X c) ∗ pts c cc0_stg1_0 fullShare (outF X))

set_option maxHeartbeats 600000 in
set_option maxRecDepth 20000 in
theorem body_ok : bodyIn X K c ⊢ wpB c (bodyP c) (fun _ => bodyOut X K c) := by
  unfold bodyIn bodyOut bodyP poss creds scrs O₀
  iintro ⟨HS, ⟨HatB, Hat⟩, Htok, ⟨HcB, Hc1, Hc3⟩, ⟨Hbuf, ⟨%f1, Hslots⟩, ⟨%f2, Hag⟩, Hred⟩, Hx, Hout⟩
  ihave ⟨HtB, Ht0, Ht1, Ht2, Ht3⟩ := (Entails.of_eq (toks_split c)) $$ Htok
  ihave ⟨⟨Hz0, Ha0⟩, ⟨Hz1, Ha1⟩, ⟨Hz2, Ha2⟩, ⟨Hz3, Ha3⟩⟩ := (Entails.of_eq ((own_split _).trans (four _))) $$ Hat
  ihave ⟨Hs0, Hslots⟩ := (Entails.of_eq (slots_split c f1)) $$ Hslots
  ihave ⟨Hag0, Hag⟩ := (Entails.of_eq (ag_rows c fullShare f2)) $$ Hag
  ihave Hslots := (slots_any c f1) $$ Hslots
  ihave Hag := (ag_any c f2) $$ Hag
  -- the handshake
  ihave HA := (zip3 _ _ _) $$ [HtB Hslots Hag]
  · isplitl [HtB]; · iexact HtB
    isplitl [Hslots] <;> iassumption
  iapply (wp_loop_all c (S := fun l => st X K c (owing (barDue c) l + (owing (rsDue c) idxs + owing (agDue c) idxs))) (B := fun _ => BI.emp) (sig_step X K c _)) $$ [HS HA]
  · isplitl [HS] <;> iassumption
  iintro ⟨HS, -⟩
  ihave HS := (st_nil X K c _ _) $$ HS
  iapply (bar_wait X K c _ (landOnly c idxs idxs)) $$ [HS HcB HatB]
  · isplitl [HS]; · iexact HS
    isplitl [HcB] <;> iassumption
  iintro ⟨HS, HatB, Hp⟩
  ihave ⟨Hps, Hpg, Hr1, Hr3⟩ := (Entails.of_eq (barPay_split c)) $$ Hp
  -- the cast
  iapply (wp_then c (cast_sb X c)) $$ [Hx Hbuf]
  · isplitl [Hx] <;> iassumption
  iintro %u ⟨Hx, Hbuf⟩
  ihave ⟨Hb0, Hbuf⟩ := (Entails.of_eq (buf_rows c (sbF X c))) $$ Hbuf
  -- the first exchange
  ihave HA := (zip5 _ _ _ _ _) $$ [Hbuf Hps Ht0 Ht1 Hr1]
  · isplitl [Hbuf]; · iexact Hbuf
    isplitl [Hps]; · iexact Hps
    isplitl [Ht0]; · iexact Ht0
    isplitl [Ht1] <;> iassumption
  iapply (wp_loop_all c (S := fun l => st X K c (owing (rsDue c) l + owing (agDue c) idxs)) (rsSend_all X K c _)) $$ [HS HA]
  · isplitl [HS] <;> iassumption
  iintro ⟨HS, Hd0⟩
  ihave HS := (st_nil X K c _ _) $$ HS
  ihave HA := (zip2 _ _) $$ [Hc1 Ha1]
  · isplitl [Hc1] <;> iassumption
  iapply (wp_loop_all c (S := fun l => st X K c (owing (agDue c) idxs)) (rsWait_step X K c _ (agOnly c idxs))) $$ [HS HA]
  · isplitl [HS] <;> iassumption
  iintro ⟨HS, HB⟩
  ihave ⟨Ha1, Hslots⟩ := (unzip2 _ _) $$ HB
  -- the sum
  iapply (wp_then c (sum_ok X c)) $$ [Hx Hslots Hred Hag0]
  · isplitl [Hx]; · iexact Hx
    isplitl [Hslots]; · iexact Hslots
    isplitl [Hred]; · iexact Hred
    iexists f2; iexact Hag0
  iintro %u ⟨Hx, Hslots, Hred, Hag0⟩
  ihave ⟨Hag0, Hlent⟩ := (Entails.of_eq (kept_all c c (gathF X))) $$ Hag0
  -- the second exchange
  ihave HA := (zip5 _ _ _ _ _) $$ [Hlent Hpg Ht2 Ht3 Hr3]
  · isplitl [Hlent]; · iexact Hlent
    isplitl [Hpg]; · iexact Hpg
    isplitl [Ht2]; · iexact Ht2
    isplitl [Ht3] <;> iassumption
  iapply (wp_loop_all c (S := fun l => st X K c (owing (agDue c) l)) (agSend_all X K c)) $$ [HS HA]
  · isplitl [HS] <;> iassumption
  iintro ⟨HS, Hd2⟩
  ihave HS := (st_done X K c _) $$ HS
  ihave HA := (zip2 _ _) $$ [Hc3 Ha3]
  · isplitl [Hc3] <;> iassumption
  iapply (wp_loop_all c (S := fun l => st X K c 0) (agWait_step X K c)) $$ [HS HA]
  · isplitl [HS] <;> iassumption
  iintro ⟨HS, HB⟩
  ihave ⟨Ha3, Hag⟩ := (unzip2 _ _) $$ HB
  -- the result
  ihave ⟨Hag, Hls⟩ := (Entails.of_eq (gath_kept c (gathF X))) $$ [Hag0 Hag]
  · isplitl [Hag0] <;> iassumption
  iapply (wp_then c (out_ok c (kept 31) (gathF X))) $$ [Hag Hout]
  · isplitl [Hag] <;> iassumption
  iintro %u ⟨Hag, Hout⟩
  ihave ⟨Hag0, Hag⟩ := (Entails.of_eq (gath_kept c (gathF X)).symm) $$ [Hag Hls]
  · isplitl [Hag] <;> iassumption
  -- the sends are done
  ihave HA := (zip2 _ _) $$ [Hd0 Ha0]
  · isplitl [Hd0] <;> iassumption
  iapply (wp_loop_all c (S := fun l => st X K c 0) (rsDone_step X K c)) $$ [HS HA]
  · isplitl [HS] <;> iassumption
  iintro ⟨HS, HB⟩
  ihave ⟨Ha0, Hbuf⟩ := (unzip2 _ _) $$ HB
  ihave HA := (zip2 _ _) $$ [Hd2 Ha2]
  · isplitl [Hd2] <;> iassumption
  ihave HA := (Entails.of_eq (bigSep_idxs _)) $$ HA
  ihave Hw := (wp_loop c (S := fun l => st X K c 0) (agDone_step X K c) idxs) $$ [HS HA]
  · isplitl [HS] <;> iassumption
  iapply (wp_wand frame _ _) $$ Hw
  iintro %u ⟨HS, HB⟩
  ihave HB := (Entails.of_eq (bigSep_idxs _).symm) $$ HB
  ihave ⟨Ha2, Hlent⟩ := (unzip2 _ _) $$ HB
  -- the arrays together again
  ihave Hag0 := (Entails.of_eq (kept_all c c (gathF X)).symm) $$ [Hag0 Hlent]
  · isplitl [Hag0] <;> iassumption
  ihave Hag := (Entails.of_eq (ag_rows c fullShare (gathF X)).symm) $$ [Hag0 Hag]
  · isplitl [Hag0] <;> iassumption
  ihave Hbuf := (Entails.of_eq (buf_rows c (sbF X c)).symm) $$ [Hb0 Hbuf]
  · isplitl [Hb0] <;> iassumption
  ihave Hslots := (slots_join c f1 (slotF X c)) $$ [Hs0 Hslots]
  · isplitl [Hs0] <;> iassumption
  isplitl [HS]; · iexact HS
  isplitl [HatB Hz0 Hz1 Hz2 Hz3 Ha0 Ha1 Ha2 Ha3]
  · unfold ends
    isplitl [HatB]; · iexact HatB
    iapply (Entails.of_eq (four _).symm)
    isplitl [Hz0 Ha0]
    · isplitl [Hz0] <;> iassumption
    isplitl [Hz1 Ha1]
    · isplitl [Hz1] <;> iassumption
    isplitl [Hz2 Ha2]
    · isplitl [Hz2] <;> iassumption
    isplitl [Hz3] <;> iassumption
  isplitl [Hbuf Hslots Hag Hred]
  · isplitl [Hbuf]
    · iexists _; iexact Hbuf
    isplitl [Hslots]; · iexact Hslots
    isplitl [Hag]
    · iexists _; iexact Hag
    iexact Hred
  isplitl [Hx]; · iexact Hx
  iexact Hout

/-- A device's cells close, their counters at zero. -/
theorem close_all : iprop(ctx X K c ∗ ends c) ⊢ |={Set.univ}=> iprop(semVal (barCell c) 0 ∗ bigSep Finset.univ fun ak : Fin 4 × Fin 32 => (semVal (cellAt c ak) 0 : sProp 𝕄)) := by
  have hz (a : Fin 4) : iprop(ctx X K c ∗ atPos ER (cellAt c (a, 0)) 0 ∅ 0) ⊢ |={Set.univ}=> (semVal (cellAt c (a, 0)) 0 : sProp 𝕄) := by
    iintro ⟨Hc, Ha⟩
    ihave HI := (ctx_cell X K c (c, (a, 0))) $$ Hc
    iapply (Rounds.cell_close ER (talkRd X) (Set.mem_univ (K (c, some (a, 0)))) (fun h => h) (R := 0) (duties_unused X c a))
    isplitl [HI] <;> iassumption
  have hs (a : Fin 4) (r : Fin 31) : iprop(ctx X K c ∗ atPos ER (cellAt c (a, r.succ)) 1 ∅ 0) ⊢ |={Set.univ}=> (semVal (cellAt c (a, r.succ)) 0 : sProp 𝕄) := by
    iintro ⟨Hc, Ha⟩
    ihave HI := (ctx_cell X K c (c, (a, r.succ))) $$ Hc
    iapply (Rounds.cell_close ER (talkRd X) (Set.mem_univ (K (c, some (a, r.succ)))) (fun h => h) (R := 1) (duties_later X (cellAt c (a, r.succ))))
    isplitl [HI] <;> iassumption
  have hr (a : Fin 4) : iprop(ctx X K c ∗ bigSep Finset.univ fun r : Fin 31 => atPos ER (cellAt c (a, r.succ)) 1 ∅ 0)
      ⊢ |={Set.univ}=> bigSep Finset.univ fun r : Fin 31 => (semVal (cellAt c (a, r.succ)) 0 : sProp 𝕄) := by
    refine .trans ?_ (bigSep_fupd Finset.univ fun r : Fin 31 => (semVal (cellAt c (a, r.succ)) 0 : sProp 𝕄))
    refine .trans ?_ (bigSep_mono fun r _ => hs a r)
    rw [bigSep_sep']
    iintro ⟨#Hc, H⟩
    isplitr
    · iapply (BI.bigSep_of_persistent Finset.univ (ctx X K c)); iexact Hc
    iexact H
  have hone (a : Fin 4) : iprop(ctx X K c ∗ (atPos ER (cellAt c (a, 0)) 0 ∅ 0 ∗ bigSep Finset.univ fun r : Fin 31 => atPos ER (cellAt c (a, r.succ)) 1 ∅ 0))
      ⊢ |={Set.univ}=> iprop(semVal (cellAt c (a, 0)) 0 ∗ bigSep Finset.univ fun r : Fin 31 => (semVal (cellAt c (a, r.succ)) 0 : sProp 𝕄)) := by
    iintro ⟨#Hc, H0, H1⟩
    imod (hz a) $$ [H0] with H0
    · isplitr; · iexact Hc
      iexact H0
    imod (hr a) $$ [H1] with H1
    · isplitr; · iexact Hc
      iexact H1
    imodintro
    isplitl [H0] <;> iassumption
  have ha : iprop(ctx X K c ∗ bigSep Finset.univ fun a : Fin 4 => iprop(atPos ER (cellAt c (a, 0)) 0 ∅ 0 ∗ bigSep Finset.univ fun r : Fin 31 => atPos ER (cellAt c (a, r.succ)) 1 ∅ 0))
      ⊢ |={Set.univ}=> bigSep Finset.univ fun a : Fin 4 => iprop(semVal (cellAt c (a, 0)) 0 ∗ bigSep Finset.univ fun r : Fin 31 => (semVal (cellAt c (a, r.succ)) 0 : sProp 𝕄)) := by
    refine .trans ?_ (bigSep_fupd Finset.univ fun a : Fin 4 => iprop(semVal (cellAt c (a, 0)) 0 ∗ bigSep Finset.univ fun r : Fin 31 => (semVal (cellAt c (a, r.succ)) 0 : sProp 𝕄)))
    refine .trans ?_ (bigSep_mono fun a _ => hone a)
    rw [bigSep_sep' Finset.univ (fun _ : Fin 4 => ctx X K c)]
    iintro ⟨#Hc, H⟩
    isplitr
    · iapply (BI.bigSep_of_persistent Finset.univ (ctx X K c)); iexact Hc
    iexact H
  unfold ends
  iintro ⟨#Hc, HB, H⟩
  ihave HI := (ctx_bar X K c c) $$ Hc
  imod (Rounds.cell_close ER (talkRd X) (Set.mem_univ (K (c, none))) (fun h => h) (R := 1) (duties_later X (barCell c))) $$ [HI HB] with HB
  · isplitl [HI] <;> iassumption
  imod ha $$ [H] with H
  · isplitr; · iexact Hc
    iexact H
  imodintro
  isplitl [HB]; · iexact HB
  iapply (Entails.of_eq (own_split _).symm)
  iexact H

end Body

end Cert.AllReduce

end
-- ==== Proof.Deal.lean ====
/-
What the devices hold when the program starts: the cells, the rights to pay them, and the credit of what is owed; dealt
to the devices, and opened when the kernel begins.
-/
module

public import proofs.«01_k».proof.Proof.Body

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the rights -/

/-- All the cells: the handshake's, and the transfers'. -/
def kcell (x : Dev nD × Option (Fin 4 × Fin 32)) : GSem nD τ sig := match x.2 with | none => barCell x.1 | some ak => cellAt x.1 ak

theorem kcell_inj : Function.Injective kcell := by
  rintro ⟨c, o⟩ ⟨c', o'⟩ h
  have hc : c = c' := by
    have h1 : (kcell (c, o)).1.1 = (kcell (c', o')).1.1 := by rw [h]
    cases o <;> cases o' <;> exact h1
  have ho : o = o' := by
    have h2 : (kcell (c, o)).2 = (kcell (c', o')).2 := by rw [h]
    cases o <;> cases o'
    · rfl
    · exact nomatch h2
    · exact nomatch h2
    · exact congrArg some (osem_inj h2)
  rw [hc, ho]

def barEmb : Dev nD ↪ GSem nD τ sig := ⟨barCell, fun c d h => (Prod.ext_iff.mp (kcell_inj (a₁ := (c, none)) (a₂ := (d, none)) h)).1⟩
def cellEmb : Dev nD × (Fin 4 × Fin 32) ↪ GSem nD τ sig := ⟨fun x => cellAt x.1 x.2, fun x y h => by
  have h' := Prod.ext_iff.mp (kcell_inj (a₁ := (x.1, some x.2)) (a₂ := (y.1, some y.2)) h)
  exact Prod.ext h'.1 (Option.some.inj h'.2)⟩

/-- The right number `o` of device `c` towards the peer at offset `r`. -/
def tokOf (x : Dev nD × Option (Fin 4) × Fin 31) : GSem nD τ sig × ℕ × Fin 31 :=
  match x with
  | (c, none, r) => (kcell (sh c r, none), 0, r.rev)
  | (c, some 0, r) => (kcell (c, some (0, r.succ)), 0, 0)
  | (c, some 1, r) => (kcell (sh c r, some (1, r.rev.succ)), 0, 0)
  | (c, some 2, r) => (kcell (c, some (2, r.succ)), 0, 0)
  | (c, some 3, r) => (kcell (sh c r, some (3, r.rev.succ)), 0, 0)

/-- The right read back from the cell and the duty it is for. -/
def tokBack (y : (Dev nD × Option (Fin 4 × Fin 32)) × Fin 31) : Dev nD × Option (Fin 4) × Fin 31 :=
  let p (k : Fin 32) : Fin 31 := ⟨(k.val - 1) % 31, Nat.mod_lt _ (by decide)⟩
  match y with
  | ((d, none), u) => (sh d u, none, u.rev)
  | ((d, some (0, k)), _) => (d, some 0, p k)
  | ((d, some (1, k)), _) => (sh d (p k), some 1, (p k).rev)
  | ((d, some (2, k)), _) => (d, some 2, p k)
  | ((d, some (3, k)), _) => (sh d (p k), some 3, (p k).rev)

/-- The cell and the duty of a right. -/
def tokKey (x : Dev nD × Option (Fin 4) × Fin 31) : (Dev nD × Option (Fin 4 × Fin 32)) × Fin 31 :=
  match x with
  | (c, none, r) => ((sh c r, none), r.rev)
  | (c, some 0, r) => ((c, some (0, r.succ)), 0)
  | (c, some 1, r) => ((sh c r, some (1, r.rev.succ)), 0)
  | (c, some 2, r) => ((c, some (2, r.succ)), 0)
  | (c, some 3, r) => ((sh c r, some (3, r.rev.succ)), 0)

theorem tokBack_key : ∀ x, tokBack (tokKey x) = x := by
  have hp (r : Fin 31) : (⟨((Fin.succ r).val - 1) % 31, Nat.mod_lt _ (by decide)⟩ : Fin 31) = r := Fin.ext (by
    show ((Fin.succ r).val - 1) % 31 = r.val
    have := r.isLt; rw [Fin.val_succ]; omega)
  rintro ⟨c, o, r⟩
  match o with
  | none => simp only [tokKey, tokBack, sh_rev, Fin.rev_rev]
  | some 0 => simp only [tokKey, tokBack, hp]
  | some 1 => simp only [tokKey, tokBack, hp, sh_rev, Fin.rev_rev]
  | some 2 => simp only [tokKey, tokBack, hp]
  | some 3 => simp only [tokKey, tokBack, hp, sh_rev, Fin.rev_rev]

theorem tokOf_key (x) : tokOf x = (kcell (tokKey x).1, 0, (tokKey x).2) := by
  obtain ⟨c, o, r⟩ := x
  match o with
  | none => rfl
  | some 0 => rfl
  | some 1 => rfl
  | some 2 => rfl
  | some 3 => rfl

theorem tokOf_inj : Function.Injective tokOf := fun x y h => by
  rw [tokOf_key, tokOf_key] at h
  have h1 : tokKey x = tokKey y := Prod.ext (kcell_inj (congrArg Prod.fst h)) (congrArg (fun t => t.2.2) h)
  rw [← tokBack_key x, h1, tokBack_key]

def liveCells : Finset (GSem nD τ sig) := Finset.univ.map barEmb
def restCells : Finset (GSem nD τ sig) := Finset.univ.map cellEmb
def allToks : Finset (GSem nD τ sig × ℕ × Fin 31) := Finset.univ.map ⟨tokOf, tokOf_inj⟩

theorem cells_disjoint : Disjoint liveCells restCells := Finset.disjoint_left.mpr fun g h h' => by
  obtain ⟨c, -, rfl⟩ := Finset.mem_map.mp h
  obtain ⟨x, -, e⟩ := Finset.mem_map.mp h'
  exact nomatch (Prod.ext_iff.mp (kcell_inj (a₁ := (x.1, some x.2)) (a₂ := (c, none)) e)).2

omit [FloatOps F] in
theorem five (Φ : Option (Fin 4) → sProp 𝕄) : bigSep Finset.univ Φ = iprop(Φ none ∗ Φ (some 0) ∗ Φ (some 1) ∗ Φ (some 2) ∗ Φ (some 3)) := by
  rw [bigSep_univ_eq_bigSepL [none, some 0, some 1, some 2, some 3] (by decide) (by decide) Φ, bigSepL_cons', bigSepL_cons', bigSepL_cons', bigSepL_cons', bigSepL_cons']
  show iprop(Φ none ∗ Φ (some 0) ∗ Φ (some 1) ∗ Φ (some 2) ∗ Φ (some 3) ∗ BI.emp) = _
  rw [show iprop(Φ (some 3) ∗ BI.emp) = Φ (some 3) from BI.sep_emp.1.antisymm BI.sep_emp.2]

omit [FloatOps F] in
theorem toks_dealt : (bigSep allToks (fun x => dutyTok ER x.1 x.2.1 x.2.2) : sProp 𝕄) = bigSep Finset.univ fun c : Dev nD => bigSep Finset.univ fun r : Fin 31 => toks c r := by
  unfold allToks
  rw [bigSep_map, bigSep_univ_prod]
  refine bigSep_congr fun c _ => ?_
  rw [toks_split, bigSep_univ_prod, five]
  rfl

section Launch
variable (X : Dev nD → Vec F S512x512 .f32)

/-- What everyone knows from the start. -/
def shared (K : Dev nD × Option (Fin 4 × Fin 32) → ℕ) : sProp 𝕄 :=
  iprop((bigSep Finset.univ fun d : Dev nD => cellInv ER (talkRd X) (K (d, none)) (barCell d))
    ∗ (bigSep Finset.univ fun x : Dev nD × (Fin 4 × Fin 32) => cellInv ER (talkRd X) (K (x.1, some x.2)) (cellAt x.1 x.2))
    ∗ (bigSep Finset.univ fun d : Dev nD => reached ER (barCell d) 0))

instance shared_persistent (K) : BI.Persistent (shared X K) := by unfold shared; infer_instance

/-- What a device alone holds from the start. -/
def kit (c : Dev nD) : sProp 𝕄 :=
  iprop(atPos ER (barCell c) 0 ∅ 0 ∗ (bigSep Finset.univ fun ak : Fin 4 × Fin 32 => openTok ER (cellAt c ak)) ∗ bigSep Finset.univ fun r : Fin 31 => toks c r)

omit [FloatOps F] in
theorem with_persistent {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  refine .trans ?_ (bigSep_mono fun i _ => h i)
  rw [bigSep_sep']
  iintro ⟨#H, HΦ⟩
  isplitr
  · iapply (BI.bigSep_of_persistent S R); iexact H
  iexact HΦ

/-- The cells and the rights, dealt. -/
theorem fund_all : iprop((bigSep Finset.univ fun c : Dev nD => (semVal (barCell c) 0 : sProp 𝕄)) ∗ BI.own (ER (launchOf liveCells restCells allToks)))
    ⊢ |={Set.univ}=> bigSep Finset.univ fun c : Dev nD => iprop((∃ K, shared X K) ∗ kit c) := by
  have hlive (Φ : GSem nD τ sig → sProp 𝕄) : bigSep liveCells Φ = bigSep Finset.univ fun c : Dev nD => Φ (barCell c) := bigSep_map _
  have hrest (Φ : GSem nD τ sig → sProp 𝕄) : bigSep restCells Φ = bigSep Finset.univ fun x : Dev nD × (Fin 4 × Fin 32) => Φ (cellAt x.1 x.2) := bigSep_map _
  have hrest' (Φ : GSem nD τ sig → sProp 𝕄) : bigSep restCells Φ = bigSep Finset.univ fun c : Dev nD => bigSep Finset.univ fun ak : Fin 4 × Fin 32 => Φ (cellAt c ak) := by
    rw [hrest, bigSep_univ_prod]
  have hall (κ : GSem nD τ sig → ℕ) : (bigSep (liveCells ∪ restCells) (fun g => cellInv ER (talkRd X) (κ g) g) : sProp 𝕄)
      = iprop((bigSep Finset.univ fun d : Dev nD => cellInv ER (talkRd X) (κ (kcell (d, none))) (barCell d))
        ∗ bigSep Finset.univ fun x : Dev nD × (Fin 4 × Fin 32) => cellInv ER (talkRd X) (κ (kcell (x.1, some x.2))) (cellAt x.1 x.2)) := by
    rw [bigSep_union cells_disjoint, hlive, hrest]; rfl
  iintro ⟨Hv, Hu⟩
  ihave Hv := (Entails.of_eq (hlive fun g => semVal g 0).symm) $$ Hv
  imod (fund_launch ER (talkRd X) cells_disjoint (fun _ _ h => h) allToks (Es := Set.univ)) $$ [Hv Hu] with ⟨%κ, -, HI, Hr, Hat, Hop, Htok⟩
  · isplitl [Hv] <;> iassumption
  imodintro
  ihave ⟨HI1, HI2⟩ := (Entails.of_eq (hall κ)) $$ HI
  ihave Hr := (Entails.of_eq (hlive fun g => reached ER g 0)) $$ Hr
  ihave Hat := (Entails.of_eq (hlive fun g => atPos ER g 0 ∅ 0)) $$ Hat
  ihave Hop := (Entails.of_eq (hrest' fun g => openTok ER g)) $$ Hop
  ihave Htok := (Entails.of_eq toks_dealt) $$ Htok
  have hs (c : Dev nD) : iprop(shared X (fun x => κ (kcell x)) ∗ kit c) ⊢ iprop((∃ K, shared X K) ∗ kit c) := by
    iintro ⟨HS, HK⟩
    isplitl [HS]; · iexists _; iexact HS
    iexact HK
  iapply (with_persistent (R := shared X fun x => κ (kcell x)) hs)
  isplitl [HI1 HI2 Hr]
  · unfold shared
    isplitl [HI1]; · iexact HI1
    isplitl [HI2] <;> iassumption
  unfold kit
  iapply (Entails.of_eq (bigSep_sep' Finset.univ (fun c : Dev nD => (atPos ER (barCell c) 0 ∅ 0 : sProp 𝕄)) _).symm)
  isplitl [Hat]; · iexact Hat
  iapply (Entails.of_eq (bigSep_sep' Finset.univ (fun c : Dev nD => (bigSep Finset.univ fun ak : Fin 4 × Fin 32 => openTok ER (cellAt c ak) : sProp 𝕄)) _).symm)
  isplitl [Hop] <;> iassumption

/-! ## The credit -/

/-- What is owed to a device in all. -/
def dueTo (c : Dev nD) : CellTallies nD τ sig Unit :=
  tallyAt (barCell c) () 31 + ((∑ r : Fin 31, tallyAt (cellAt c (1, r.succ)) () N) + ∑ r : Fin 31, tallyAt (cellAt c (3, r.succ)) () N)

theorem owing_sum (f : Fin 31 → CellTallies nD τ sig Unit) : owing f idxs = ∑ r, f r := by
  have h : ((idxs : List (Fin 31)) : Multiset (Fin 31)) = (Finset.univ : Finset (Fin 31)).val := by decide
  have h' : (Multiset.map f ((idxs : List (Fin 31)) : Multiset (Fin 31))).sum = (idxs.map f).sum := by rw [Multiset.map_coe, Multiset.sum_coe]
  rw [owing, ← h', h]; rfl

/-- The peers at every offset, over all the devices, are the devices at every offset. -/
def swap : Dev nD × Fin 31 ≃ Dev nD × Fin 31 :=
  ⟨fun x => (sh x.1 x.2, x.2.rev), fun x => (sh x.1 x.2, x.2.rev), fun x => Prod.ext (sh_rev x.1 x.2) (Fin.rev_rev x.2), fun x => Prod.ext (sh_rev x.1 x.2) (Fin.rev_rev x.2)⟩

theorem sum_swap {A : Type} [AddCommMonoid A] (f : Dev nD → Fin 31 → A) : (∑ d : Dev nD, ∑ r : Fin 31, f (sh d r) r.rev) = ∑ d : Dev nD, ∑ r : Fin 31, f d r := by
  rw [← Fintype.sum_prod_type' (fun d r => f (sh d r) r.rev), ← Fintype.sum_prod_type' f]
  exact Equiv.sum_comp swap (fun x => f x.1 x.2)

theorem tally_sum (g : GSem nD τ sig) (s : Finset (Fin 31)) (n : ℕ) : (∑ _r ∈ s, tallyAt g () n : CellTallies nD τ sig Unit) = tallyAt g () (s.card * n) := by
  induction s using Finset.induction_on with
  | empty => rw [Finset.sum_empty, Finset.card_empty, Nat.zero_mul, tallyAt_zero]
  | insert r s hr ih => rw [Finset.sum_insert hr, ih, Finset.card_insert_of_notMem hr, tallyAt_add, Nat.add_mul, Nat.one_mul, Nat.add_comm]

theorem due_total : (∑ d : Dev nD, O₀ d) = ∑ d : Dev nD, dueTo d := by
  have hb : (∑ d : Dev nD, ∑ r : Fin 31, barDue d r) = ∑ d : Dev nD, (tallyAt (barCell d) () 31 : CellTallies nD τ sig Unit) := by
    rw [show (∑ d : Dev nD, ∑ r : Fin 31, barDue d r) = _ from sum_swap fun d _ => (tallyAt (barCell d) () 1 : CellTallies nD τ sig Unit)]
    exact Finset.sum_congr rfl fun d _ => tally_sum (barCell d) Finset.univ 1
  have h1 : (∑ d : Dev nD, ∑ r : Fin 31, rsDue d r) = ∑ d : Dev nD, ∑ r : Fin 31, (tallyAt (cellAt d (1, r.succ)) () N : CellTallies nD τ sig Unit) :=
    sum_swap fun d r => (tallyAt (cellAt d (1, r.succ)) () N : CellTallies nD τ sig Unit)
  have h3 : (∑ d : Dev nD, ∑ r : Fin 31, agDue d r) = ∑ d : Dev nD, ∑ r : Fin 31, (tallyAt (cellAt d (3, r.succ)) () N : CellTallies nD τ sig Unit) :=
    sum_swap fun d r => (tallyAt (cellAt d (3, r.succ)) () N : CellTallies nD τ sig Unit)
  have e (d : Dev nD) : O₀ d = (∑ r, barDue d r) + ((∑ r, rsDue d r) + ∑ r, agDue d r) := by
    unfold O₀; rw [owing_sum, owing_sum, owing_sum]
  rw [Finset.sum_congr rfl fun d _ => e d, Finset.sum_add_distrib, Finset.sum_add_distrib, hb, h1, h3, ← Finset.sum_add_distrib, ← Finset.sum_add_distrib]
  rfl

theorem tally_at {g g' : GSem nD τ sig} {n : ℕ} (h : (tallyAt g' () n : CellTallies nD τ sig Unit) g ≠ 0) : g = g' := by
  by_contra hn
  exact h (tallyAt_ne_cell hn () n)

theorem sum_at {g : GSem nD τ sig} {f : Fin 31 → CellTallies nD τ sig Unit} (h : (∑ r, f r) g ≠ 0) : ∃ r, f r g ≠ 0 := by
  by_contra hn
  have hn' : ∀ r, f r g = 0 := fun r => by by_contra h'; exact hn ⟨r, h'⟩
  exact h (by rw [Finset.sum_apply]; exact Finset.sum_eq_zero fun r _ => hn' r)

theorem due_own (d : Dev nD) (g : GSem nD τ sig) (h : dueTo d g ≠ 0) : g.1 = (d.tc : Thread nD τ) := by
  unfold dueTo at h
  rw [Pi.add_apply, Pi.add_apply] at h
  by_cases hb : (tallyAt (barCell d) () 31 : CellTallies nD τ sig Unit) g = 0
  · rw [hb, zero_add] at h
    by_cases h1 : (∑ r : Fin 31, (tallyAt (cellAt d (1, r.succ)) () N : CellTallies nD τ sig Unit)) g = 0
    · rw [h1, zero_add] at h
      obtain ⟨r, hr⟩ := sum_at h
      rw [tally_at hr]
    · obtain ⟨r, hr⟩ := sum_at h1
      rw [tally_at hr]
  · rw [tally_at hb]

omit [FloatOps F] in
theorem cred_sum (s : Finset (Fin 31)) (f : Fin 31 → CellTallies nD τ sig Unit) : (cred (∑ r ∈ s, f r) : sProp 𝕄) = bigSep s fun r => cred (f r) := by
  induction s using Finset.induction_on with
  | empty => rw [Finset.sum_empty, cred_zero, bigSep_empty]; rfl
  | insert r s hr ih => rw [Finset.sum_insert hr, bigSep_insert hr, ← ih]; exact BI.Entails.antisymm (cred_add _ _).1 (cred_add _ _).2

omit [FloatOps F] in
theorem creds_dealt (c : Dev nD) : (Pipeline.launchCred O₀ c : sProp 𝕄) = creds c := by
  rw [Pipeline.launchCred_of_sum O₀ dueTo due_total due_own c]
  unfold dueTo creds
  rw [← cred_sum, ← cred_sum]
  rw [BI.Entails.antisymm (cred_add _ _).1 (cred_add _ _).2, BI.Entails.antisymm (cred_add (∑ r : Fin 31, tallyAt (cellAt c (1, r.succ)) () N) _).1 (cred_add _ _).2]

/-! ## The start of the program -/

/-- What waits for the kernel from the start of the program. -/
def talk (c : Dev nD) : sProp 𝕄 := iprop((∃ K, shared X K) ∗ kit c ∗ creds c)

/-- The launch element, kept on device 0. -/
def seed (c : Dev nD) : sProp 𝕄 := if c = 0 then BI.own (ER (launchOf liveCells restCells allToks)) else iprop(emp)

omit [FloatOps F] in
theorem seed_intro : (BI.own (ER (launchOf liveCells restCells allToks)) : sProp 𝕄) ⊢ bigSep Finset.univ (seed (F := F)) := by
  have hne : ∀ r : Fin 31, sh 0 r ≠ (0 : Dev nD) := by decide +kernel
  rw [dev_split 0 (seed (F := F)), bigSep_congr fun r _ => show seed (F := F) (sh 0 r) = iprop(emp) from if_neg (hne r)]
  iintro H
  isplitl [H]
  · iapply (Entails.of_eq (show (BI.own (ER (launchOf liveCells restCells allToks)) : sProp 𝕄) = seed (F := F) 0 from (if_pos rfl).symm)); iexact H
  · iapply (BI.bigSep_of_persistent Finset.univ (iprop(emp) : sProp 𝕄)); iempintro

omit [FloatOps F] in
theorem seed_elim : bigSep Finset.univ (seed (F := F)) ⊢ (BI.own (ER (launchOf liveCells restCells allToks)) : sProp 𝕄) := by
  have h : bigSep Finset.univ (seed (F := F)) ⊢ seed (F := F) 0 := bigSep_elim (Finset.mem_univ 0)
  exact h.trans (Entails.of_eq (if_pos rfl))

omit [FloatOps F] in
theorem unscopedSems0_eq (c : Dev nD) : (unscopedSems0 c : sProp 𝕄) = semVal (barCell c) 0 := by
  unfold unscopedSems0
  rw [bigSep_eq_bigSepL_of_eq [SemLoc.reg barS] (by decide) (by decide)]
  rfl

/-- The start, whatever else the devices hold. -/
theorem init_all (ρ : Dev nD → PrngReg) (A : Dev nD → sProp 𝕄) :
    iprop((bigSep Finset.univ fun c : Dev nD => iprop(A c ∗ unscopedSems0 c ∗ owes (c : Thread nD τ) (O₀ c) ∅ ∗ Pipeline.launchCred O₀ c ∗ prngReg c (ρ c) ∗ seed c)) ∗ levAts L lv)
      ⊢ |={Set.univ}=> bigSep Finset.univ fun c : Dev nD => iprop(A c ∗ (∃ r, prngReg c r) ∗ talk X c ∗ ∃ W, owes (c : Thread nD τ) (O₀ c) W) := by
  rw [bigSep_sep', bigSep_sep', bigSep_sep', bigSep_sep', bigSep_sep']
  rw [bigSep_congr fun c _ => unscopedSems0_eq c, bigSep_congr (Φ := fun c => Pipeline.launchCred O₀ c) fun c _ => creds_dealt c]
  iintro ⟨⟨HA, Hv, HO, Hc, Hp, HG⟩, -⟩
  ihave HG := seed_elim $$ HG
  imod (fund_all X) $$ [Hv HG] with HK
  · isplitl [Hv] <;> iassumption
  imodintro
  have hz (c : Dev nD) : iprop(A c ∗ prngReg c (ρ c) ∗ ((∃ K, shared X K) ∗ kit c) ∗ creds c ∗ owes (c : Thread nD τ) (O₀ c) ∅)
      ⊢ iprop(A c ∗ (∃ r, prngReg c r) ∗ talk X c ∗ ∃ W, owes (c : Thread nD τ) (O₀ c) W) := by
    unfold talk
    iintro ⟨HA, Hp, ⟨HK, Hk⟩, Hc, HO⟩
    isplitl [HA]; · iexact HA
    isplitl [Hp]; · iexists _; iexact Hp
    isplitr [HO]
    · isplitl [HK]; · iexact HK
      isplitl [Hk] <;> iassumption
    iexists _; iexact HO
  have hz' : iprop(bigSep Finset.univ A ∗ (bigSep Finset.univ fun c => prngReg c (ρ c)) ∗ (bigSep Finset.univ fun c => iprop((∃ K, shared X K) ∗ kit c)) ∗ bigSep Finset.univ creds
        ∗ bigSep Finset.univ fun c : Dev nD => owes (c : Thread nD τ) (O₀ c) ∅)
      ⊢ bigSep Finset.univ fun c : Dev nD => iprop(A c ∗ (∃ r, prngReg c r) ∗ talk X c ∗ ∃ W, owes (c : Thread nD τ) (O₀ c) W) := by
    refine .trans (Entails.of_eq ?_) (bigSep_mono fun c _ => hz c)
    rw [bigSep_sep' Finset.univ A, bigSep_sep' Finset.univ (fun c => prngReg c (ρ c)), bigSep_sep' Finset.univ (fun c => iprop((∃ K, shared X K) ∗ kit c)), bigSep_sep' Finset.univ creds]
  iapply hz'
  isplitl [HA]; · iexact HA
  isplitl [Hp]; · iexact Hp
  isplitl [HK]; · iexact HK
  isplitl [Hc] <;> iassumption

/-! ## The start of the kernel -/

/-- A device opens its own cells, their counters at zero. -/
theorem open_all (c : Dev nD) : iprop(talk X c ∗ (bigSep Finset.univ fun ak : Fin 4 × Fin 32 => (semVal (cellAt c ak) 0 : sProp 𝕄)) ∗ levAts L lv)
    ⊢ |={Set.univ}=> iprop(∃ K, ctx X K c ∗ poss c ∗ (bigSep Finset.univ fun r : Fin 31 => toks c r) ∗ creds c) := by
  have hcell (K) (ak : Fin 4 × Fin 32) : shared X K ⊢ cellInv ER (talkRd X) (K (c, some ak)) (cellAt c ak) := by
    have h : bigSep Finset.univ (fun x : Dev nD × (Fin 4 × Fin 32) => cellInv ER (talkRd X) (K (x.1, some x.2)) (cellAt x.1 x.2)) ⊢ cellInv ER (talkRd X) (K (c, some ak)) (cellAt c ak) :=
      bigSep_elim (Finset.mem_univ (c, ak))
    unfold shared; iintro ⟨-, H, -⟩; iapply h; iexact H
  have hone (K) (ak : Fin 4 × Fin 32) : iprop(shared X K ∗ (openTok ER (cellAt c ak) ∗ semVal (cellAt c ak) 0))
      ⊢ |={Set.univ}=> iprop(atPos ER (cellAt c ak) 0 ∅ 0 ∗ reached ER (cellAt c ak) 0 : sProp 𝕄) := by
    iintro ⟨HS, Ho, Hv⟩
    ihave HI := (hcell K ak) $$ HS
    iapply (Rounds.cell_open ER (talkRd X) (Set.mem_univ (K (c, some ak))))
    isplitl [HI]; · iexact HI
    isplitl [Ho] <;> iassumption
  have hall (K) : iprop(shared X K ∗ (bigSep Finset.univ fun ak : Fin 4 × Fin 32 => iprop(openTok ER (cellAt c ak) ∗ semVal (cellAt c ak) 0)))
      ⊢ |={Set.univ}=> bigSep Finset.univ fun ak : Fin 4 × Fin 32 => (iprop(atPos ER (cellAt c ak) 0 ∅ 0 ∗ reached ER (cellAt c ak) 0) : sProp 𝕄) :=
    (with_persistent (hone K)).trans (bigSep_fupd Finset.univ fun ak : Fin 4 × Fin 32 => (iprop(atPos ER (cellAt c ak) 0 ∅ 0 ∗ reached ER (cellAt c ak) 0) : sProp 𝕄))
  unfold talk kit poss
  iintro ⟨⟨⟨%K, #HS⟩, ⟨Hat, Hop, Htok⟩, Hc⟩, Hv, #HL⟩
  imod (hall K) $$ [Hop Hv] with H
  · isplitr; · iexact HS
    iapply (Entails.of_eq (bigSep_sep' Finset.univ (fun ak : Fin 4 × Fin 32 => (openTok ER (cellAt c ak) : sProp 𝕄)) _).symm)
    isplitl [Hop] <;> iassumption
  imodintro
  ihave ⟨Ha, Hr⟩ := (Entails.of_eq (bigSep_sep' Finset.univ (fun ak : Fin 4 × Fin 32 => (atPos ER (cellAt c ak) 0 ∅ 0 : sProp 𝕄)) _)) $$ H
  iexists K
  isplitl [Hr]
  · unfold ctx shared
    icases HS with ⟨#H1, #H2, #H3⟩
    isplitr; · iexact H1
    isplitr; · iexact H2
    isplitr; · iexact H3
    isplitl [Hr]; · iexact Hr
    iexact HL
  isplitl [Hat Ha]
  · isplitl [Hat] <;> iassumption
  isplitl [Htok] <;> iassumption

end Launch

end Cert.AllReduce

end
-- ==== Proof.Region.lean ====
/-
The kernel as one region of the program: what it is entered with, what it leaves, and the record the launch takes of it,
at any contents of the devices' buffers.
-/
module

public import proofs.«01_k».proof.Proof.Deal
public import proofs.«01_k».proof.Proof.Gen.KernelIdeal.Points
public import Idealize.ShloMosaic.Lib.Pipeline.RegionTalk
public import Idealize.ShloMosaic.Lib.Pipeline.ValueKit.Geometry

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (W : Dev nD → Valuation τ sig (Elt F))

/-! ## Contents -/

/-- The reference the kernel reads, and the one it writes. -/
abbrev arrIn : DevRef τ sig := Proc.devRef .tc (Pipeline.arrRef spec0 0)
abbrev arrOut : DevRef τ sig := Proc.devRef .tc (Pipeline.arrRef spec0 1)

/-- A device's part of the sum. -/
def part (c : Dev nD) : Vec F S512x512 .f32 := (win0_0.blk (0 : Fin 1)).view.read (Elt F) (W c arrIn)

/-- It is what the reference holds: the block is the whole of it. -/
theorem part_eq (c : Dev nD) : part W c = W c arrIn := by
  funext j
  show W c arrIn ((win0_0.rect (0 : Fin 1)).emb j) = W c arrIn j
  refine congrArg (W c arrIn) (funext fun a => Fin.ext ?_)
  exact Pipeline.Window.rect_emb_val_of_index_zero win0_0 t0_0 a (by revert a; decide) j

/-- The devices' buffers after the kernel: its output in place. -/
def put (c : Dev nD) : Valuation τ sig (Elt F) := Function.update (W c) arrOut (outF (part W))

theorem put_out (c : Dev nD) : put W c arrOut = outF (part W) := Function.update_self ..
theorem put_of_ne (c : Dev nD) {b : DevRef τ sig} (h : b ≠ arrOut) : put W c b = W c b := Function.update_of_ne h ..

/-! ## The region's data -/

/-- What the kernel starts with. -/
def pre0 (c : Dev nD) : sProp 𝕄 :=
  iprop((∃ K, ctx (part W) K c ∗ poss c ∗ (bigSep Finset.univ fun r : Fin 31 => toks c r) ∗ creds c) ∗ scrs c ∗ ∃ r, prngReg c r)
/-- What it ends with. -/
def post0 (c : Dev nD) : sProp 𝕄 :=
  iprop((semVal (barCell c) 0 ∗ bigSep Finset.univ fun ak : Fin 4 × Fin 32 => (semVal (cellAt c ak) 0 : sProp 𝕄)) ∗ scrs c ∗ ∃ r, prngReg c r)

def dat0 (c : Dev nD) : Dat τ (Elt F) Unit ℕ UU ℕ cfg0 c where
  A w := W c (Proc.devRef .tc (Pipeline.arrRef spec0 w))
  after w _ := match w with
    | ⟨0, _⟩ => part W c
    | ⟨1, _⟩ => outF (part W)
  Φ t := if t.val = 0 then pre0 W c else post0 c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 W

theorem owed_zero (c : Dev nD) : (pdats W 0 c).owed 0 = O₀ c := by
  show (if ((0 : Fin (cfg0.N + 1)).val = 0) then O₀ c else 0) = O₀ c; exact if_pos rfl
theorem owed_first (c : Dev nD) : (dat0 W c).owed t0_0.castSucc = O₀ c := by
  show (if (t0_0.castSucc : Fin (cfg0.N + 1)).val = 0 then O₀ c else 0) = O₀ c; exact if_pos rfl
theorem owed_last (c : Dev nD) : (pdats W 0 c).owed (Fin.last _) = 0 := by
  show (if (Fin.last cfg0.N).val = 0 then O₀ c else 0) = 0
  rw [Fin.val_last, if_neg (by rw [show cfg0.N = 1 from N_0]; decide)]

omit [FloatOps F] in
/-- A core's debt, as a point of the pipeline holds it, and back. -/
theorem owesAt_of {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) (V : Waits sig Unit) :
    (owes (c : Thread nD τ) O V : sProp 𝕄) ⊢ dat.owesAt () t := by
  unfold Dat.owesAt Pipeline.owesWithin Dat.bound
  rw [h0, hr]
  iintro H
  iexists V
  isplitr
  · ipureintro; exact fun _ _ => Or.inl trivial
  · iexact H
omit [FloatOps F] in
theorem of_owesAt {cfg : Pipeline.Cfg sig Λ₀} {c : Dev nD} (dat : Dat τ (Elt F) Unit ℕ UU ℕ cfg c) (t : Fin (cfg.N + 1))
    (O : CellTallies nD τ sig Unit) (h0 : dat.owed t = O) : (dat.owesAt () t : sProp 𝕄) ⊢ iprop(∃ V, owes (c : Thread nD τ) O V) := by
  unfold Dat.owesAt Pipeline.owesWithin
  rw [h0]
  iintro ⟨%V, -, H⟩
  iexists V; iexact H

omit [FloatOps F] in
/-- A whole buffer owned at contents is its points-to. -/
theorem owns_pts (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ pts c b fullShare g) := by
  unfold owns; simp only [Memref.view_whole, View.read_whole, View.set_whole]

theorem before_in (c : Dev nD) (d) : (dat0 W c).before (0 : Fin 2) t0_0 d = part W c := by
  unfold Dat.before
  rw [if_pos (fetch0_0 t0_0)]
  rfl

set_option maxRecDepth 20000 in
/-- The body's run, its cells closed after it. -/
theorem run0 (c : Dev nD) (K) : bodyIn (part W) K c ⊢ wpB c body0 (fun _ =>
    iprop(((semVal (barCell c) 0 ∗ bigSep Finset.univ fun ak : Fin 4 × Fin 32 => (semVal (cellAt c ak) 0 : sProp 𝕄)) ∗ scrs c)
      ∗ (∃ V, owes (c : Thread nD τ) 0 V) ∗ pts c cc0_stg0_0 fullShare (part W c) ∗ pts c cc0_stg1_0 fullShare (outF (part W)))) := by
  have hpost : bodyOut (part W) K c ⊢ |={Set.univ}[frame]=> iprop(((semVal (barCell c) 0 ∗ bigSep Finset.univ fun ak : Fin 4 × Fin 32 => (semVal (cellAt c ak) 0 : sProp 𝕄)) ∗ scrs c)
      ∗ (∃ V, owes (c : Thread nD τ) 0 V) ∗ pts c cc0_stg0_0 fullShare (part W c) ∗ pts c cc0_stg1_0 fullShare (outF (part W))) := by
    unfold bodyOut st
    iintro ⟨⟨#Hc, HO⟩, He, Hs, Hx, Hy⟩
    imod (close_all (part W) K c) $$ [He] with HZ
    · isplitr; · iexact Hc
      iexact He
    imodintro
    isplitl [HZ Hs]; · isplitl [HZ] <;> iassumption
    isplitl [HO]; · iexact HO
    isplitl [Hx] <;> iassumption
  rw [body0_eq]
  show _ ⊢ wpB c (.op .deviceId fun d : Dev nD => bodyP d) _
  unfold wpB
  rw [wp_deviceId]
  exact ((body_ok (part W) K c).trans (wp_mono frame _ _ fun _ => hpost)).trans (wp_fupd frame _ _ _ _)

/-- The obligation's two sides, opened. -/
def obIn (c : Dev nD) : sProp 𝕄 :=
  iprop(pre0 W c ∗ (dat0 W c).owesAt () t0_0.castSucc
    ∗ (∃ d, iprop(∃ g : Buf (Elt F) ((c : Thread nD τ).loc cc0_stg0_0), ⌜g = (dat0 W c).before (0 : Fin 2) t0_0 d⌝ ∗ pts c cc0_stg0_0 fullShare g))
    ∗ ∃ d, iprop(∃ g : Buf (Elt F) ((c : Thread nD τ).loc cc0_stg1_0), ⌜g = (dat0 W c).before (1 : Fin 2) t0_0 d⌝ ∗ pts c cc0_stg1_0 fullShare g))
def obOut (c : Dev nD) : sProp 𝕄 :=
  iprop(post0 c ∗ (dat0 W c).owesAt () t0_0.succ
    ∗ (∃ g : Buf (Elt F) ((c : Thread nD τ).loc cc0_stg0_0), ⌜g = part W c⌝ ∗ pts c cc0_stg0_0 fullShare g)
    ∗ ∃ g : Buf (Elt F) ((c : Thread nD τ).loc cc0_stg1_0), ⌜g = outF (part W)⌝ ∗ pts c cc0_stg1_0 fullShare g)

theorem ob_ok (c : Dev nD) : obIn W c ⊢ wpB c body0 (fun _ => obOut W c) := by
  unfold obIn pre0
  iintro ⟨⟨⟨%K, HC, Hp, Ht, Hcr⟩, Hs, Hr⟩, HO, ⟨%d, %g, %hg, Hx⟩, ⟨%d', %g', -, Hy⟩⟩
  ihave HO := (of_owesAt (dat0 W c) _ (O₀ c) (owed_first W c)) $$ HO
  have hgx : g = part W c := hg.trans (before_in W c d)
  subst hgx
  iapply (wp_wand frame _ _) $$ [HC Hp Ht Hcr Hs HO Hx Hy]
  · iapply (run0 W c K)
    unfold bodyIn st
    isplitl [HC HO]; · isplitl [HC] <;> iassumption
    isplitl [Hp]; · iexact Hp
    isplitl [Ht]; · iexact Ht
    isplitl [Hcr]; · iexact Hcr
    isplitl [Hs]; · iexact Hs
    isplitl [Hx]; · iexact Hx
    iexists g'; iexact Hy
  iintro %u ⟨⟨HZ, Hs⟩, ⟨%V, HO⟩, Hx, Hy⟩
  unfold obOut post0
  isplitl [HZ Hs Hr]
  · isplitl [HZ]; · iexact HZ
    isplitl [Hs] <;> iassumption
  isplitl [HO]; · iapply (owesAt_of (dat0 W c) t0_0.succ 0 (owed_last W c) rfl V); iexact HO
  isplitl [Hx]
  · iexists part W c
    isplitr
    · ipureintro; rfl
    · iexact Hx
  · iexists outF (part W)
    isplitr
    · ipureintro; rfl
    · iexact Hy

set_option maxRecDepth 20000 in
/-- The kernel's body, as the pipeline calls it. -/
theorem obligation (c : Dev nD) : BodyObligation (dat0 W c) defs₀ 𝒱₀ () Set.univ := fun t => by
  obtain rfl := fin_N0 t
  rw [bigSep_W0, bigSep_W0]
  simp only [owns_pts]
  exact ob_ok W c

/-! ## The record -/

/-- A device's references that are no array of the kernel's. -/
def others : Finset (DevRef τ sig) := Pipeline.ucRefs τ sig \ Pipeline.arrRefs (τ := τ) spec0

theorem scrs_eq (c : Dev nD) : (Pipeline.scopedRest (Ix := Unit) (Name := ℕ) (U := UU) (Lvl := ℕ) (Val := Elt F) (Pipeline.pin (pcfgs (F := F)) adm 0).spec c : sProp 𝕄) = scrs c :=
  scopedRest0_eq c

theorem own_facts : Pipeline.OwnSemFacts spec0 osem where
  isScoped := by decide
  inj := osem_inj
  disj := by decide

theorem stage_sem (w : Fin 2) (s : Fin ((win0 w).nbuf)) : ((win0 w).sem s).val < 34 := by revert s; revert w; decide

theorem cut0 : Pipeline.LevelCutOwed (pcfgs (F := F)) adm (pdats W) () L lv 0 (fun _ => 0) where
  hι c w s := by rw [L_tc]; exact Finset.mem_singleton_self _
  hιb c w s := by
    show lv ((c : Thread nD τ), .dma ((win0 w).sem s)) () ≤ 0
    dsimp only [lv]; rw [if_pos (stage_sem w s)]
  hD c t g i h := by
    have e : (pdats W 0 c).owed t = if t.val = 0 then O₀ c else 0 := rfl
    rw [e] at h
    split at h
    · rcases O₀_pos h with ⟨d, rfl⟩ | ⟨d, k, rfl⟩ | ⟨d, k, rfl⟩
      · exact ⟨by rw [L_tc]; exact Finset.mem_singleton_self _, by rw [lv_bar]; decide⟩
      · exact ⟨by rw [L_tc]; exact Finset.mem_singleton_self _, by rw [lv_rs]; decide⟩
      · exact ⟨by rw [L_tc]; exact Finset.mem_singleton_self _, by rw [lv_ag]; decide⟩
    · exact absurd h (Nat.lt_irrefl 0)

/-- What the kernel's cells are opened to. -/
def opened (c : Dev nD) : sProp 𝕄 := iprop(∃ K, ctx (part W) K c ∗ poss c ∗ (bigSep Finset.univ fun r : Fin 31 => toks c r) ∗ creds c)

theorem region_in (c : Dev nD) : iprop(Pipeline.scopedRest (Pipeline.pin (pcfgs (F := F)) adm 0).spec c ∗ (∃ r, prngReg c r) ∗ StableHlo.held (c.tc : Thread nD τ) ∅ (W c) ∗ opened W c)
    ⊢ (pdats W 0 c).Φ 0 := by
  rw [show (pdats W 0 c).Φ 0 = pre0 W c from rfl, scrs_eq]
  unfold pre0 opened
  iintro ⟨Hs, Hr, -, Ho⟩
  isplitl [Ho]; · iexact Ho
  isplitl [Hs] <;> iassumption

theorem held_none (c : Dev nD) (V : Valuation τ sig (Elt F)) : (StableHlo.held (c.tc : Thread nD τ) ∅ V : sProp 𝕄) = BI.emp := by
  unfold StableHlo.held; exact BI.bigSep_empty

theorem region_out (c : Dev nD) : (pdats W 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (put W c)
      ∗ Pipeline.ownSems0 osem c ∗ semVal (barCell c) 0) := by
  rw [show (pdats W 0 c).Φ (Fin.last _) = post0 c from rfl, scrs_eq, held_none,
    show (Pipeline.ownSems0 osem c : sProp 𝕄) = bigSep Finset.univ fun ak : Fin 4 × Fin 32 => (semVal (cellAt c ak) 0 : sProp 𝕄) from rfl]
  unfold post0
  iintro ⟨⟨Hb, Ha⟩, Hs, Hr⟩
  isplitl [Hs]; · iexact Hs
  isplitl [Hr]; · iexact Hr
  isplitr; · iempintro
  isplitl [Ha]; · iexact Ha
  iexact Hb

theorem arr_end (c : Dev nD) (w : Fin 2) : (dat0 W c).arrAt w cfg0.N = put W c (Proc.devRef .tc (Pipeline.arrRef spec0 w)) := by
  match w with
  | 0 =>
    refine ((dat0 W c).arrAt_in (0 : Fin 2) rfl _).trans ?_
    exact (put_of_ne W c (by decide)).symm
  | 1 =>
    refine ((dat0 W c).arrAt_eq_of_after_last (1 : Fin 2) t0_0 (by decide +kernel) (outF (part W)) fun j => ?_).trans (put_out W c).symm
    rfl

theorem share_full (c : Dev nD) (w : Fin 2) : (dat0 W c).share w = fullShare := by
  match w with
  | 0 => rfl
  | 1 => rfl

set_option backward.isDefEq.respectTransparency.types false in
/-- The kernel as a region. -/
def reg0 : Pipeline.RegionSeg (pcfgs (F := F)) adm (pdats W) () defs₀ 𝒱₀ L lv 0 :=
  Pipeline.RegionSeg.ofTalk (pcfgs (F := F)) adm (pdats W) () defs₀ 𝒱₀ L lv 0 osem own_facts
    ∅ others (Finset.empty_subset _) launch0.toP rfl (fun c => (obligation W c).loose)
    (fun _ => 0) O₀ (fun c => (owed_zero W c).trans (zero_add _).symm) (owed_last W) (fun _ => rfl) (fun c w => share_full W c w)
    W (put W) (fun c b hb => put_of_ne W c fun e => by
      subst e; exact (Finset.mem_sdiff.mp (Finset.mem_sdiff.mp hb).1).2 (by decide))
    (talk (part W)) (fun c => semVal (barCell c) 0) (opened W) (fun c => semVal (barCell c) 0)
    (fun c => open_all (part W) c) (region_in W) (region_out W)
    (fun c => by iintro H; imodintro; iexact H)
    (fun _ => 0) (cut0 W) (fun _ => iprop(emp)) (fun _ w => rfl) (arr_end W)

theorem others_split (c : Dev nD) (V : Valuation τ sig (Elt F)) :
    (StableHlo.held (c.tc : Thread nD τ) (Pipeline.ucRefs τ sig) V : sProp 𝕄)
      = iprop(StableHlo.held (c.tc : Thread nD τ) (Pipeline.arrRefs (τ := τ) spec0) V ∗ StableHlo.held (c.tc : Thread nD τ) others V) :=
  StableHlo.held_sub_split _ (Pipeline.arrRefs_sub_ucRefs spec0 (by decide)) V

/-- Into the region, from the buffers and what the launch dealt. -/
theorem reg0_pre (c : Dev nD) : iprop(StableHlo.held (c.tc : Thread nD τ) (Pipeline.ucRefs τ sig) (W c) ∗ (∃ r, prngReg c r) ∗ talk (part W) c ∗ ∃ V, owes (c : Thread nD τ) (O₀ c) V)
    ⊢ (reg0 W).pre c := by
  show _ ⊢ (iprop(StableHlo.held (c.tc : Thread nD τ) (Pipeline.arrRefs (τ := τ) (pcfgs (F := F) 0).spec) (W c) ∗ (∃ r, prngReg c r)
    ∗ (StableHlo.held (c.tc : Thread nD τ) others (W c) ∗ emp) ∗ talk (part W) c ∗ ∃ V, owes (c : Thread nD τ) (0 + O₀ c) V) : sProp 𝕄)
  rw [others_split, zero_add]
  iintro ⟨⟨Ha, Hh⟩, Hr, Ht, HO⟩
  isplitl [Ha]; · iexact Ha
  isplitl [Hr]; · iexact Hr
  isplitl [Hh]
  · isplitl [Hh]; · iexact Hh
    iempintro
  isplitl [Ht] <;> iassumption

/-- Out of it. -/
theorem reg0_post (c : Dev nD) : (reg0 W).post c
    ⊢ iprop(StableHlo.held (c.tc : Thread nD τ) (Pipeline.ucRefs τ sig) (put W c) ∗ semVal (barCell c) 0 ∗ ∃ V, owes (c : Thread nD τ) (0 : CellTallies nD τ sig Unit) V) := by
  show (iprop(StableHlo.held (c.tc : Thread nD τ) (Pipeline.arrRefs (τ := τ) (pcfgs (F := F) 0).spec) (put W c) ∗ (∃ r, prngReg c r)
    ∗ (StableHlo.held (c.tc : Thread nD τ) others (put W c) ∗ emp) ∗ semVal (barCell c) 0 ∗ ∃ V, owes (c : Thread nD τ) (0 : CellTallies nD τ sig Unit) V) : sProp 𝕄) ⊢ _
  rw [others_split]
  iintro ⟨Ha, -, ⟨Hh, -⟩, Hb, HO⟩
  isplitl [Ha Hh]; · isplitl [Ha] <;> iassumption
  isplitl [Hb] <;> iassumption

end Cert.AllReduce

end
-- ==== Proof.Run.lean ====
/-
The program's run from any memory: the launch, its segments, and what the final memory holds.
-/
module

public import proofs.«01_k».proof.Proof.Region

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## Reading the final memory -/

/-- Buffers held at contents are what the memory holds. -/
theorem held_read (c : Dev nD) (S : Finset (DevRef τ sig)) (V : Valuation τ sig (Elt F)) (s : Phys nD τ sig (Elt F)) :
    iprop(StableHlo.held (c.tc : Thread nD τ) S V ∗ SI s) ⊢ (iprop(⌜∀ b ∈ S, s.mem.mem (c, b) = V b⌝ ∗ SI s) : sProp 𝕄) := by
  have h1 (b : DevRef τ sig) : iprop(((c, b) ↦{fullShare} V b) ∗ SI s) ⊢ (iprop(⌜s.mem.mem (c, b) = V b⌝) : sProp 𝕄) := by
    iintro ⟨H, HSI⟩
    icombine HSI H gives %h
    ipureintro; exact Buf.eq_of_forall_mem_univ h
  have h2 : iprop(StableHlo.held (c.tc : Thread nD τ) S V ∗ SI s) ⊢ (iprop(⌜∀ b ∈ S, s.mem.mem (c, b) = V b⌝) : sProp 𝕄) :=
    (forall_intro fun b => (forall_intro fun hb => by
      have h3 : StableHlo.held (c.tc : Thread nD τ) S V ⊢ (iprop((c, b) ↦{fullShare} V b) : sProp 𝕄) := bigSep_elim hb
      iintro ⟨H, HSI⟩
      iapply (h1 b)
      isplitl [H]
      · iapply h3; iexact H
      · iexact HSI).trans pure_forall.2).trans pure_forall.2
  iintro ⟨H, HSI⟩
  ihave %h := h2 $$ [H HSI]
  · isplitl [H] <;> iassumption
  isplitr
  · ipureintro; exact h
  · iexact HSI

/-! ## The launch -/

/-- The launch element: the pipeline's, and the protocol's. -/
def u₀ : UU :=
  (initOf (Pipeline.cells (Pipeline.pin (pcfgs (F := F)) adm) cellOf_inj) (Pipeline.launchToks (Pipeline.pin (pcfgs (F := F)) adm) cellOf_inj),
    launchOf liveCells restCells allToks)

/-- What a device starts from, its buffers at `V`. -/
def start (W V : Dev nD → Valuation τ sig (Elt F)) (c : Dev nD) : sProp 𝕄 :=
  iprop(StableHlo.held (c.tc : Thread nD τ) (Pipeline.ucRefs τ sig) (V c) ∗ (∃ r, prngReg c r) ∗ talk (part W) c ∗ ∃ O, owes (c : Thread nD τ) (O₀ c) O)
/-- What it ends with. -/
def finish (V : Dev nD → Valuation τ sig (Elt F)) (c : Dev nD) : sProp 𝕄 :=
  iprop(StableHlo.held (c.tc : Thread nD τ) (Pipeline.ucRefs τ sig) (V c) ∗ semVal (barCell c) 0)

theorem dealt (W : Dev nD → Valuation τ sig (Elt F)) (m : (ℓ : Loc nD τ sig) → Buf (Elt F) ℓ) (ρ : Dev nD → PrngReg) :
    iprop((bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ seed c)) ∗ levAts L lv)
      ⊢ |={Set.univ}=> (bigSep Finset.univ (start W fun c b => m (c, b)) : sProp 𝕄) := by
  rw [bigSep_congr fun c _ => by
    rw [show (unscopedBufs c (fun b => m ((c.tc : Thread nD τ).loc b)) : sProp 𝕄) = StableHlo.held (c.tc : Thread nD τ) (Pipeline.ucRefs τ sig) (fun b => m (c, b)) from
      Pipeline.unscopedBufs_held c (fun b => m (c, b))]]
  exact init_all (part W) ρ _

/-- A final memory and counters, from what the devices end with. -/
theorem finished (V : Dev nD → Valuation τ sig (Elt F)) (c : Dev nD) (s : Phys nD τ sig (Elt F)) :
    iprop(finish V c ∗ SI s) ⊢ |={Set.univ}=> (iprop(⌜(∀ b ∈ Pipeline.ucRefs τ sig, s.mem.mem (c, b) = V c b) ∧ s.mem.sem (barCell c) = 0⌝ ∗ SI s) : sProp 𝕄) := by
  unfold finish
  iintro ⟨⟨Hh, Hb⟩, HSI⟩
  icombine HSI Hb gives %hb
  ihave ⟨%hh, HSI⟩ := (held_read c (Pipeline.ucRefs τ sig) (V c) s) $$ [Hh HSI]
  · isplitl [Hh] <;> iassumption
  imodintro
  isplitr
  · ipureintro; exact ⟨hh, hb⟩
  · iexact HSI

theorem unscoped_bar : ∀ sm : SemLoc sig, sm.isScoped .tc = false → sm = .reg barS := by decide

set_option backward.isDefEq.respectTransparency.types false in
/-- The program as segments that lead from the launch to the buffers at `V`: its run leaves them so, and every counter at zero. -/
theorem run_of (W V : Dev nD → Valuation τ sig (Elt F)) (m : (ℓ : Loc nD τ sig) → Buf (Elt F) ℓ) (ρ : Dev nD → PrngReg)
    (segs : Dev nD → List (Pipeline.Seg (pcfgs (F := F)) adm (pdats W) () defs₀ 𝒱₀ L lv))
    (hmain : ∀ c, main (F := F) c = Pipeline.Seg.run (segs c)) (hnd : ∀ c, (Pipeline.Seg.pipes (segs c)).Nodup)
    (hch : ∀ c, Pipeline.Seg.ChainsAt c (start W fun c b => m (c, b)) (segs c)
      fun c => iprop(finish V c ∗ ∃ O, owes (c.tc : Thread nD τ) (0 : CellTallies nD τ sig Unit) O)) :
    θ_run defs (onTc (τ := τ) (main (F := F))) ⟨m, fun _ => 0, ρ⟩
      (fun r => (∀ c : Dev nD, ∀ b ∈ Pipeline.ucRefs τ sig, r.2.mem (c, b) = V c b) ∧ r.2.sem = fun _ => 0) :=
  Pipeline.θ_run_regions_kit_dev_sems (pcfgs (F := F)) adm (pdats W) () cellOf_inj EP defs₀ 𝒱₀ L lv m ρ main segs
    (fun c Q => by rw [hmain c]) hnd (O₀ := O₀) (hL := L_of_ne) (G := seed) (u₀ := u₀ (F := F))
    (hu₀ := by
      unfold u₀
      iintro Hu
      ihave H := (ownU_pair _ _) $$ Hu
      icases H with ⟨HP, HX⟩
      ihave HG := seed_intro $$ HX
      imodintro
      isplitl [HP]; · iexact HP
      iexact HG)
    (T₀ := start W fun c b => m (c, b)) (Tₙ := finish V) (hch := hch) (hinit := dealt W m ρ)
    (QY := fun c s => (∀ b ∈ Pipeline.ucRefs τ sig, s.mem (c, b) = V c b) ∧ s.sem (barCell c) = 0)
    (hfin := finished V)
    (hQ := fun s h hs => ⟨fun c => (h c).1, sem_eq_zero hs fun c sm hsm => by
      rw [unscoped_bar sm hsm]; exact (h c).2⟩)

end Cert.AllReduce

end
-- ==== Proof.Main.lean ====
/-
The whole program: its host operations before the call, the call, the reshape after it, and what the final memory
holds.
-/
module

public import proofs.«01_k».proof.Proof.Run
public import proofs.«01_k».proof.Proof.Gen.KernelIdeal.Regions

@[expose] public section

-- decided memberships over the program's references recurse past the default depth
set_option maxRecDepth 2000

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- What the call leaves in its output: the sum of the devices' partial products. -/
def outs : Outs (F := F) := fun _ r c => if h : r = main_v64 then h ▸ (outF (part (V13 m)) : Buf (Elt F) ((c : Thread nD τ).loc main_v64)) else m ((c : Thread nD τ).loc r)
theorem outs_out (j : ℕ) (c : Dev nD) : outs m j main_v64 c = outF (part (V13 m)) := dif_pos rfl

/-- The buffers after the call are what the call puts. -/
theorem put_eq (c : Dev nD) : put (V13 m) c = V14 m (outs m) c := by
  unfold put V14
  rw [outs_out]

/-- What rides along beside the buffers: before the call what a device deals, after it its barrier at rest. -/
def ride : Fin 2 → Dev nD → sProp 𝕄 := fun j c =>
  if j = 0 then iprop((∃ r, prngReg c r) ∗ talk (part (V13 m)) c ∗ ∃ O, owes (c : Thread nD τ) (O₀ c) O)
  else iprop(semVal (barCell c) 0 ∗ ∃ O, owes (c : Thread nD τ) (0 : CellTallies nD τ sig Unit) O)

/-- The program's segments. -/
def segsOf (c : Dev nD) : List (Pipeline.Seg (pcfgs (F := F)) adm (pdats (V13 m)) () defs₀ 𝒱₀ L lv) :=
  Gen.segs m (outs m) 𝒱₀ L lv (ride m) () (pdats (V13 m)) (reg0 (V13 m)) c

theorem main_eq (c : Dev nD) : main (F := F) c = Pipeline.Seg.run (segsOf m c) := by
  rewrite [main_chain c, Pipeline.Seg.run_eq_chain]
  exact congrArg Pipeline.chain rfl

theorem segs_nodup (c : Dev nD) : (Pipeline.Seg.pipes (segsOf m c)).Nodup := by
  unfold segsOf
  simp only [Gen.segs, Pipeline.Seg.pipes_host, Pipeline.Seg.pipes_region, Pipeline.Seg.pipes_nil]; decide

theorem call_pre (c : Dev nD) : iprop(StableHlo.held (c.tc : Thread nD τ) (Pipeline.ucRefs τ sig) (V13 m c) ∗ ride m 0 c) ⊢ (reg0 (V13 m)).pre c :=
  reg0_pre (V13 m) c
theorem call_post (c : Dev nD) : (reg0 (V13 m)).post c
    ⊢ (iprop(StableHlo.held (c.tc : Thread nD τ) (Pipeline.ucRefs τ sig) (V14 m (outs m) c) ∗ ride m 1 c) : sProp 𝕄) := by
  rw [← put_eq m c]
  exact reg0_post (V13 m) c

theorem segs_chain (c : Dev nD) : Pipeline.Seg.ChainsAt c (start (V13 m) (fun c b => m (c, b))) (segsOf m c)
    fun c => (iprop(finish (V15 m (outs m)) c ∗ ∃ O, owes (c.tc : Thread nD τ) (0 : CellTallies nD τ sig Unit) O) : sProp 𝕄) :=
  ⟨.rfl, .rfl, .rfl, .rfl, .rfl, .rfl, .rfl, .rfl, .rfl, .rfl, .rfl, .rfl, .rfl, call_pre m c, call_post m c, sep_assoc.2⟩

/-- Every weakly fair run ends, every buffer as the program's operations leave it, every counter at zero. -/
theorem run_all : θ_run defs (onTc (τ := τ) (main (F := F))) ⟨m, fun _ => 0, ρ⟩
    (fun r => (∀ c : Dev nD, ∀ b ∈ Pipeline.ucRefs τ sig, r.2.mem (c, b) = V15 m (outs m) c b) ∧ r.2.sem = fun _ => 0) :=
  run_of (V13 m) (V15 m (outs m)) m ρ (segsOf m) (main_eq m) (segs_nodup m) (segs_chain m)

/-- The result: the sum of the partial products, one value over all devices. -/
theorem result_eq (c : Dev nD) : V15 m (outs m) c main_v65 = shapeCast S2x256x512 (outF fun c' : Dev nD => (V13 m c' main_v63 : Vec F S512x512 .f32)) shapeCasts_S512x512_S2x256x512 := by
  have h : V14 m (outs m) c main_v64 = outF (part (V13 m)) := (Function.update_self _ _ _).trans (outs_out m 14 c)
  have hp : part (V13 m) = fun c' : Dev nD => (V13 m c' main_v63 : Vec F S512x512 .f32) := funext fun c' => part_eq (V13 m) c'
  rw [← hp, ← h]
  show StableHlo.after hostOps1 (V14 m (outs m) c) main_v65 = _
  after_results_simp
  rfl

/-- The run, at the arguments and the result. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.mem ((c : Thread nD τ).loc main_v65) = shapeCast S2x256x512 (outF fun c' : Dev nD => (V13 m c' main_v63 : Vec F S512x512 .f32)) shapeCasts_S512x512_S2x256x512)
      ∧ r.2.sem = fun _ => 0) := by
  refine (θ_run defs _ _).mono (fun r hr => ⟨fun c => ⟨⟨?_, ?_, ?_, ?_, ?_⟩, ?_⟩, hr.2⟩) (run_all m ρ)
  · exact (hr.1 c (Proc.devRef .tc main_arg0) (Finset.mem_filter.mpr ⟨StableHlo.devRef_mem_tcRefs main_arg0, by decide⟩)).trans (V15_main_arg0 m (outs m) c)
  · exact (hr.1 c (Proc.devRef .tc main_arg1) (Finset.mem_filter.mpr ⟨StableHlo.devRef_mem_tcRefs main_arg1, by decide⟩)).trans (V15_main_arg1 m (outs m) c)
  · exact (hr.1 c (Proc.devRef .tc main_arg2) (Finset.mem_filter.mpr ⟨StableHlo.devRef_mem_tcRefs main_arg2, by decide⟩)).trans (V15_main_arg2 m (outs m) c)
  · exact (hr.1 c (Proc.devRef .tc main_arg3) (Finset.mem_filter.mpr ⟨StableHlo.devRef_mem_tcRefs main_arg3, by decide⟩)).trans (V15_main_arg3 m (outs m) c)
  · exact (hr.1 c (Proc.devRef .tc main_arg4) (Finset.mem_filter.mpr ⟨StableHlo.devRef_mem_tcRefs main_arg4, by decide⟩)).trans (V15_main_arg4 m (outs m) c)
  · exact (hr.1 c (Proc.devRef .tc main_v65) (Finset.mem_filter.mpr ⟨StableHlo.devRef_mem_tcRefs main_v65, by decide⟩)).trans (result_eq m c)

end Cert.AllReduce

end
-- ==== Proof.HostK.lean ====
/- The attention of one device, as the composed host operations of the program before its call: the mask, and the
   layers from the queries to the partial product. -/
module

public import proofs.«01_k».proof.Proof.Gen.KernelIdeal

@[expose] public section

noncomputable section

namespace Cert.AllReduce

open Cert.KernelIdeal Cert.KernelIdeal.Gen Idealize.ShloMosaic Idealize.ShloMosaic.TcCoe

/-! ## The mask -/

/-- Division of integers rounded down, as the program computes it. -/
def fdivT (x : IVec S256 32) (n : IVec S_ 32) : IVec S256 32 :=
  select (andi (cmpi .ne (signi x) (broadcastInDim S256 ![] bcast_S_S256 (signi (id n))))
      (cmpi .ne (Host.remsi x (broadcastInDim S256 ![] bcast_S_S256 (id n))) (broadcastInDim S256 ![] bcast_S_S256 (constantI S_ 32 0#32))))
    (subi (Host.divsi x (broadcastInDim S256 ![] bcast_S_S256 (id n))) (broadcastInDim S256 ![] bcast_S_S256 (constantI S_ 32 1#32)))
    (Host.divsi x (broadcastInDim S256 ![] bcast_S_S256 (id n)))

/-- The divisor a remainder is taken by: never zero. -/
def modT (n : IVec S_ 32) : IVec S_ 32 := select (cmpi .eq (id n) (constantI S_ 32 0#32)) (constantI S_ 32 1#32) (id n)

/-- The remainder of the sign of the divisor, as the program computes it. -/
def remT (x : IVec S256x256 32) (n : IVec S_ 32) : IVec S256x256 32 :=
  select (andi (cmpi .ne (cmpi .slt (Host.remsi x (broadcastInDim S256x256 ![] bcast_S_S256x256 (modT n))) (broadcastInDim S256x256 ![] bcast_S_S256x256 (constantI S_ 32 0#32)))
        (broadcastInDim S256x256 ![] bcast_S_S256x256 (cmpi .slt (modT n) (constantI S_ 32 0#32))))
      (cmpi .ne (Host.remsi x (broadcastInDim S256x256 ![] bcast_S_S256x256 (modT n))) (broadcastInDim S256x256 ![] bcast_S_S256x256 (constantI S_ 32 0#32))))
    (addi (Host.remsi x (broadcastInDim S256x256 ![] bcast_S_S256x256 (modT n))) (broadcastInDim S256x256 ![] bcast_S_S256x256 (modT n)))
    (Host.remsi x (broadcastInDim S256x256 ![] bcast_S_S256x256 (modT n)))

/-- The block of each query, and of each key. -/
def blkT : IVec S256 32 := fdivT (iotaInDim S256 32 0) (constantI S_ 32 64#32)
def qbT : IVec S256x1 32 := broadcastInDim S256x1 ![0] bcast_S256_S256x1_0 blkT
def kbT : IVec S1x256 32 := broadcastInDim S1x256 ![1] bcast_S256_S1x256_1 blkT
/-- The two blocks agree, or the key's is the first. -/
def nearT : IVec S256x256 1 :=
  ori (cmpi .eq (broadcastInDim S256x256 ![0, 1] bcast_S256x1_S256x256_0_1 qbT) (broadcastInDim S256x256 ![0, 1] bcast_S1x256_S256x256_0_1 kbT))
    (broadcastInDim S256x256 ![0, 1] bcast_S1x256_S256x256_0_1 (cmpi .eq kbT (broadcastInDim S1x256 ![] bcast_S_S1x256 (constantI S_ 32 0#32))))
def sumT : IVec S256x256 32 :=
  addi (broadcastInDim S256x256 ![0, 1] bcast_S256x1_S256x256_0_1 qbT) (broadcastInDim S256x256 ![0, 1] bcast_S1x256_S256x256_0_1 kbT)
/-- The pairs of a query and a key that attend. -/
def maskT : IVec S256x256 1 :=
  ori nearT (cmpi .eq (remT sumT (constantI S_ 32 3#32)) (broadcastInDim S256x256 ![] bcast_S_S256x256 (constantI S_ 32 0#32)))
/-- The queries that attend to some key. -/
def keepT : IVec S256 1 := Host.reduce IntOp.ori maskT (constantI S_ 1 0#1) reducesTo_S256x256_S256_d1 h_S_

/-! ## The layers, for four heads -/

variable {F : FTy → Type} [FloatOps F]

/-- The first column of the device's part of the weights, of the queries and of the output. -/
def offT (c : Dev nD) : IVec S_ 32 :=
  muli (id (Host.remui (Host.divui (constantI S_ 32 (Dev.word c)) (constantI S_ 32 1#32)) (constantI S_ 32 32#32))) (constantI S_ 32 256#32)
def startT (c : Dev nD) : IVec S_ 32 := select (cmpi .slt (offT c) (constantI S_ 32 0#32)) (addi (offT c) (constantI S_ 32 8192#32)) (offT c)

def qwK (c : Dev nD) (Wq : Vec F S512x8192 .bf16) : Vec F S512x256 .bf16 :=
  Host.dynamicSlice S512x256 Wq (fun k => ((![constantI S_ 32 0#32, startT c] : Fin 2 → IVec S_ 32) k (Shape.Idx.first h_S_)).toInt) sliceFits_S512x8192_S512x256
def owK (c : Dev nD) (Wo : Vec F S8192x512 .bf16) : Vec F S256x512 .bf16 :=
  Host.dynamicSlice S256x512 Wo (fun k => ((![startT c, constantI S_ 32 0#32] : Fin 2 → IVec S_ 32) k (Shape.Idx.first h_S_)).toInt) sliceFits_S8192x512_S256x512
def qK (x : FVec F S2x256x512 .bf16) (wq : FVec F S512x256 .bf16) : FVec F S2x256x4x64 .bf16 :=
  shapeCast S2x256x4x64 (truncf .bf16 (Host.dotGeneral dot_S2x256x512_S512x256_S2x256x256_2_0_01_1_n_n none x wq : FVec F S2x256x256 .f32) bitsLt_bf16_f32) shapeCasts_S2x256x256_S2x256x4x64
def scoreK (q k : FVec F S2x256x4x64 .bf16) : FVec F S2x4x256x256 .f32 :=
  mulf (Host.dotGeneral dot_S2x256x4x64_S2x256x4x64_S2x4x256x256_3_3_1_1_02_02 none q k) (broadcastInDim S2x4x256x256 ![] bcast_S_S2x4x256x256 (constant S_ .f32 0x3E000000#32))
def maskedK (M : IVec S256x256 1) (s : FVec F S2x4x256x256 .f32) : FVec F S2x4x256x256 .f32 :=
  select (broadcastInDim S2x4x256x256 ![0, 1, 2, 3] bcast_S1x1x256x256_S2x4x256x256_0_1_2_3 (broadcastInDim S1x1x256x256 ![2, 3] bcast_S256x256_S1x1x256x256_2_3 M)) s
    (broadcastInDim S2x4x256x256 ![] bcast_S_S2x4x256x256 (id (constant S_ .f32 0xCE6E6B28#32)))
def expK (s : FVec F S2x4x256x256 .f32) : FVec F S2x4x256x256 .f32 :=
  Host.exp (subf s (broadcastInDim S2x4x256x256 ![0, 1, 2, 3] bcast_S2x4x256x1_S2x4x256x256_0_1_2_3 (broadcastInDim S2x4x256x1 ![0, 1, 2] bcast_S2x4x256_S2x4x256x1_0_1_2
    (Host.reduce FloatOps.maximumf s (constant S_ .f32 0xFF800000#32) reducesTo_S2x4x256x256_S2x4x256_d3 h_S_))))
def totK (e : FVec F S2x4x256x256 .f32) : FVec F S2x4x256x1 .f32 :=
  broadcastInDim S2x4x256x1 ![0, 1, 2] bcast_S2x4x256_S2x4x256x1_0_1_2 (Host.reduceAdd e (constant S_ .f32 0x00000000#32) reducesTo_S2x4x256x256_S2x4x256_d3 h_S_)
def keep4 (k : IVec S256 1) : IVec S1x1x256x1 1 := broadcastInDim S1x1x256x1 ![2] bcast_S256_S1x1x256x1_2 k
def denK (k : IVec S256 1) (e : FVec F S2x4x256x256 .f32) : FVec F S2x4x256x1 .f32 :=
  select (broadcastInDim S2x4x256x1 ![0, 1, 2, 3] bcast_S1x1x256x1_S2x4x256x1_0_1_2_3 (keep4 k)) (totK e) (broadcastInDim S2x4x256x1 ![] bcast_S_S2x4x256x1 (id (constant S_ .f32 0x3F800000#32)))
def wK (k : IVec S256 1) (e : FVec F S2x4x256x256 .f32) : FVec F S2x4x256x256 .f32 :=
  select (broadcastInDim S2x4x256x256 ![0, 1, 2, 3] bcast_S1x1x256x1_S2x4x256x256_0_1_2_3 (keep4 k))
    (Host.divf e (broadcastInDim S2x4x256x256 ![0, 1, 2, 3] bcast_S2x4x256x1_S2x4x256x256_0_1_2_3 (denK k e)))
    (broadcastInDim S2x4x256x256 ![] bcast_S_S2x4x256x256 (id (constant S_ .f32 0x00000000#32)))
def ctxK (v : FVec F S2x256x4x64 .bf16) (w : FVec F S2x4x256x256 .f32) : FVec F S2x256x4x64 .bf16 :=
  truncf .bf16 (transpose S2x256x4x64 [0, 3, 1, 2] (Host.dotGeneral dot_S2x256x4x64_S2x4x256x256_S2x4x64x256_1_3_3_2_02_01 none v (truncf .bf16 w bitsLt_bf16_f32) : FVec F S2x4x64x256 .f32)
    transposes_S2x4x64x256_S2x256x4x64_0_3_1_2) bitsLt_bf16_f32
def outK (ctx : FVec F S2x256x4x64 .bf16) (wo : FVec F S256x512 .bf16) : FVec F S512x512 .f32 :=
  shapeCast S512x512 (Host.dotGeneral dot_S2x256x256_S256x512_S2x256x512_2_0_01_1_n_n none (shapeCast S2x256x256 ctx shapeCasts_S2x256x4x64_S2x256x256) wo : FVec F S2x256x512 .f32) shapeCasts_S2x256x512_S512x512
/-- The partial product of a device. -/
def partK (c : Dev nD) (x : Vec F S2x256x512 .bf16) (Wq : Vec F S512x8192 .bf16) (k v : Vec F S2x256x4x64 .bf16) (Wo : Vec F S8192x512 .bf16) : Vec F S512x512 .f32 :=
  outK (ctxK v (wK keepT (expK (maskedK maskT (scoreK (qK x (qwK c Wq)) k))))) (owK c Wo)

end Cert.AllReduce

end
-- ==== Proof.Stretch.lean ====
/-
The host operations before the call, one stretch at a time: the value each leaves where the next ones read it.
-/
module

public import proofs.«01_k».proof.Proof.HostK
public import proofs.«01_k».proof.Proof.Gen.KernelIdeal.Regions
public import Idealize.ShloMosaic.Lib.StableHlo.RunClose

@[expose] public section

set_option maxRecDepth 2000

noncomputable section

namespace Cert.AllReduce

open Cert.KernelIdeal Cert.KernelIdeal.Gen Idealize.ShloMosaic Idealize.ShloMosaic.TcCoe

variable {F : FTy → Type} [FloatOps F] (V : Valuation τ sig (Elt F)) (c : Dev nD)

/-! ## The stretches, from any contents -/

theorem st0_score : StableHlo.after (hostOps0 c) V main_v20 = scoreK (qK (V main_arg0) (qwK c (V main_arg1))) (V main_arg2) := by
  after_results_simp_entrywise
  rfl
theorem st0_wo : StableHlo.after (hostOps0 c) V main_v14 = owK c (V main_arg4) := by
  after_results_simp_entrywise
  rfl
theorem st0_iota : StableHlo.after (hostOps0 c) V main_v21 = iotaInDim S256 32 0 := by
  after_results_simp <;> rfl
theorem st0_n : StableHlo.after (hostOps0 c) V main_c_9 = constantI S_ 32 64#32 := by
  after_results_simp <;> rfl
theorem st1 : StableHlo.after hostOps0_1 V main_v22 = fdivT (V main_v21) (V main_c_9) := by
  after_results_simp <;> rfl
theorem st2_qb : StableHlo.after hostOps0_2 V main_v23 = broadcastInDim S256x1 ![0] bcast_S256_S256x1_0 (V main_v22) := by
  after_results_simp <;> rfl
theorem st2_iota : StableHlo.after hostOps0_2 V main_v24 = iotaInDim S256 32 0 := by
  after_results_simp <;> rfl
theorem st2_n : StableHlo.after hostOps0_2 V main_c_10 = constantI S_ 32 64#32 := by
  after_results_simp <;> rfl
theorem st3 : StableHlo.after hostOps0_3 V main_v25 = fdivT (V main_v24) (V main_c_10) := by
  after_results_simp <;> rfl
theorem st4_near (hq : V main_v23 = qbT) (hk : V main_v25 = blkT) : StableHlo.after hostOps0_4 V main_v33 = nearT := by
  after_results_simp <;> (simp only [hq, hk]; rfl)
theorem st4_sum (hq : V main_v23 = qbT) (hk : V main_v25 = blkT) : StableHlo.after hostOps0_4 V main_v36 = sumT := by
  after_results_simp <;> (simp only [hq, hk]; rfl)
theorem st4_n : StableHlo.after hostOps0_4 V main_c_12 = constantI S_ 32 3#32 := by
  after_results_simp <;> rfl
theorem st5 : StableHlo.after hostOps0_5 V main_v37 = remT (V main_v36) (V main_c_12) := by
  after_results_simp
  simp only [StableHlo.TRef.toBuf, StableHlo.TRef.ofBuf, cast_eq]
  rfl
theorem st6_mask (hn : V main_v33 = nearT) (hr : V main_v37 = remT sumT (constantI S_ 32 3#32)) : StableHlo.after hostOps0_6 V main_v40 = maskT := by
  after_results_simp <;> (simp only [hn, hr]; rfl)
theorem st6_mask4 (hn : V main_v33 = nearT) (hr : V main_v37 = remT sumT (constantI S_ 32 3#32)) :
    StableHlo.after hostOps0_6 V main_v41 = broadcastInDim S1x1x256x256 ![2, 3] bcast_S256x256_S1x1x256x256_2_3 maskT := by
  after_results_simp <;> (simp only [hn, hr]; rfl)
theorem st6_c : StableHlo.after hostOps0_6 V main_cst_14 = constant S_ .f32 0xCE6E6B28#32 := by
  after_results_simp <;> rfl
theorem st7 (M : IVec S256x256 1) (s : FVec F S2x4x256x256 .f32) (hM : V main_v41 = broadcastInDim S1x1x256x256 ![2, 3] bcast_S256x256_S1x1x256x256_2_3 M)
    (hs : V main_v20 = s) (hc : V main_cst_14 = constant S_ .f32 0xCE6E6B28#32) : StableHlo.after hostOps0_7 V main_v42 = maskedK M s := by
  after_results_simp <;> (simp only [hM, hs, hc]; rfl)
theorem st8_exp : StableHlo.after hostOps0_8 V main_v47 = expK (V main_v42) := by
  after_results_simp <;> rfl
theorem st8_keep (h : V main_v40 = maskT) : StableHlo.after hostOps0_8 V main_v49 = keep4 keepT := by
  after_results_simp <;> (simp only [h]; rfl)
theorem st8_any (h : V main_v40 = maskT) : StableHlo.after hostOps0_8 V main_v48 = keepT := by
  after_results_simp <;> (simp only [h]; rfl)
theorem st8_tot : StableHlo.after hostOps0_8 V main_v51 = totK (expK (V main_v42)) := by
  after_results_simp <;> rfl
theorem st8_one : StableHlo.after hostOps0_8 V main_cst_18 = constant S_ .f32 0x3F800000#32 := by
  after_results_simp <;> rfl
theorem st9 (k : IVec S256 1) (e : FVec F S2x4x256x256 .f32) (hk : V main_v49 = keep4 k) (he : V main_v51 = totK e) (h1 : V main_cst_18 = constant S_ .f32 0x3F800000#32) :
    StableHlo.after hostOps0_9 V main_v52 = denK k e := by
  after_results_simp <;> (simp only [hk, he, h1]; rfl)
theorem st10_keep : StableHlo.after hostOps0_10 V main_v53 = keep4 (V main_v48) := by
  after_results_simp <;> rfl
theorem st10_zero : StableHlo.after hostOps0_10 V main_cst_19 = constant S_ .f32 0x00000000#32 := by
  after_results_simp <;> rfl
theorem st10_div : StableHlo.after hostOps0_10 V main_v55
    = Host.divf (V main_v47) (broadcastInDim S2x4x256x256 ![0, 1, 2, 3] bcast_S2x4x256x1_S2x4x256x256_0_1_2_3 (V main_v52)) := by
  after_results_simp <;> rfl
theorem st12 : StableHlo.after hostOps0_12 V main_v63 = outK (ctxK (V main_arg3) (V main_v56)) (V main_v14) := by
  after_results_simp <;> rfl

theorem st11 (k : IVec S256 1) (e : FVec F S2x4x256x256 .f32) (hk : V main_v53 = keep4 k)
    (hd : V main_v55 = Host.divf e (broadcastInDim S2x4x256x256 ![0, 1, 2, 3] bcast_S2x4x256x1_S2x4x256x256_0_1_2_3 (denK k e)))
    (h0 : V main_cst_19 = constant S_ .f32 0x00000000#32) : StableHlo.after hostOps0_11 V main_v56 = wK k e := by
  after_results_simp <;> (simp only [hk, hd, h0]; rfl)

/-! ## Along the program -/

variable (m : (ℓ : Loc nD τ sig) → Buf (Elt F) ℓ)

/-- The scores of a device's heads. -/
def scores : FVec F S2x4x256x256 .f32 := scoreK (qK (m ((c : Thread nD τ).loc main_arg0)) (qwK c (m ((c : Thread nD τ).loc main_arg1)))) (m ((c : Thread nD τ).loc main_arg2))

theorem v23_2 : V3 m c main_v23 = qbT := by
  refine (st2_qb (V2 m c)).trans ?_
  rw [show V2 m c main_v22 = blkT from (st1 (V1 m c)).trans (by rw [show V1 m c main_v21 = _ from st0_iota (V0 m c) c, show V1 m c main_c_9 = _ from st0_n (V0 m c) c]; rfl)]
  rfl
theorem v25_4 : V4 m c main_v25 = blkT :=
  (st3 (V3 m c)).trans (by rw [show V3 m c main_v24 = _ from st2_iota (V2 m c), show V3 m c main_c_10 = _ from st2_n (V2 m c)]; rfl)
theorem v23_4 : V4 m c main_v23 = qbT := (V4_of m c main_v23 (by decide)).trans (v23_2 c m)
theorem v33_6 : V6 m c main_v33 = nearT := (V6_of m c main_v33 (by decide)).trans (st4_near (V4 m c) (v23_4 c m) (v25_4 c m))
theorem v37_6 : V6 m c main_v37 = remT sumT (constantI S_ 32 3#32) :=
  (st5 (V5 m c)).trans (by rw [show V5 m c main_v36 = _ from st4_sum (V4 m c) (v23_4 c m) (v25_4 c m), show V5 m c main_c_12 = _ from st4_n (V4 m c)])
theorem v40_7 : V7 m c main_v40 = maskT := st6_mask (V6 m c) (v33_6 c m) (v37_6 c m)
theorem v41_7 : V7 m c main_v41 = broadcastInDim S1x1x256x256 ![2, 3] bcast_S256x256_S1x1x256x256_2_3 maskT := st6_mask4 (V6 m c) (v33_6 c m) (v37_6 c m)
theorem v20_7 : V7 m c main_v20 = scores c m :=
  (V7_of m c main_v20 (by decide)).trans <| (V6_of m c main_v20 (by decide)).trans <| (V5_of m c main_v20 (by decide)).trans <| (V4_of m c main_v20 (by decide)).trans <|
    (V3_of m c main_v20 (by decide)).trans <| (V2_of m c main_v20 (by decide)).trans (st0_score (V0 m c) c)
theorem v42_8 : V8 m c main_v42 = maskedK maskT (scores c m) := st7 (V7 m c) _ _ (v41_7 c m) (v20_7 c m) (st6_c (V6 m c))
theorem v40_8 : V8 m c main_v40 = maskT := (V8_of m c main_v40 (by decide)).trans (v40_7 c m)
/-- The exponentials of a device's masked scores. -/
def exps : FVec F S2x4x256x256 .f32 := expK (maskedK maskT (scores c m))
theorem v47_9 : V9 m c main_v47 = exps c m := (st8_exp (V8 m c)).trans (by rw [v42_8]; rfl)
theorem v51_9 : V9 m c main_v51 = totK (exps c m) := (st8_tot (V8 m c)).trans (by rw [v42_8]; rfl)
theorem v49_9 : V9 m c main_v49 = keep4 keepT := st8_keep (V8 m c) (v40_8 c m)
theorem v48_10 : V10 m c main_v48 = keepT := (V10_of m c main_v48 (by decide)).trans (st8_any (V8 m c) (v40_8 c m))
theorem v47_10 : V10 m c main_v47 = exps c m := (V10_of m c main_v47 (by decide)).trans (v47_9 c m)
theorem v52_10 : V10 m c main_v52 = denK keepT (exps c m) := st9 (V9 m c) _ _ (v49_9 c m) (v51_9 c m) (st8_one (V8 m c))
theorem v53_11 : V11 m c main_v53 = keep4 keepT := (st10_keep (V10 m c)).trans (by rw [v48_10])
theorem v55_11 : V11 m c main_v55 = Host.divf (exps c m) (broadcastInDim S2x4x256x256 ![0, 1, 2, 3] bcast_S2x4x256x1_S2x4x256x256_0_1_2_3 (denK keepT (exps c m))) :=
  (st10_div (V10 m c)).trans (by rw [v47_10, v52_10])
theorem v56_12 : V12 m c main_v56 = wK keepT (exps c m) := st11 (V11 m c) _ _ (v53_11 c m) (v55_11 c m) (st10_zero (V10 m c))
theorem v14_12 : V12 m c main_v14 = owK c (m ((c : Thread nD τ).loc main_arg4)) :=
  (V12_of m c main_v14 (by decide)).trans <| (V11_of m c main_v14 (by decide)).trans <| (V10_of m c main_v14 (by decide)).trans <| (V9_of m c main_v14 (by decide)).trans <|
    (V8_of m c main_v14 (by decide)).trans <| (V7_of m c main_v14 (by decide)).trans <| (V6_of m c main_v14 (by decide)).trans <| (V5_of m c main_v14 (by decide)).trans <|
    (V4_of m c main_v14 (by decide)).trans <| (V3_of m c main_v14 (by decide)).trans <| (V2_of m c main_v14 (by decide)).trans (st0_wo (V0 m c) c)
theorem arg3_12 : V12 m c main_arg3 = m ((c : Thread nD τ).loc main_arg3) :=
  (V12_of m c main_arg3 (by decide)).trans <| (V11_of m c main_arg3 (by decide)).trans <| (V10_of m c main_arg3 (by decide)).trans <| (V9_of m c main_arg3 (by decide)).trans <|
    (V8_of m c main_arg3 (by decide)).trans <| (V7_of m c main_arg3 (by decide)).trans <| (V6_of m c main_arg3 (by decide)).trans <| (V5_of m c main_arg3 (by decide)).trans <|
    (V4_of m c main_arg3 (by decide)).trans <| (V3_of m c main_arg3 (by decide)).trans <| (V2_of m c main_arg3 (by decide)).trans (V1_of m c main_arg3 (by decide))

/-- What the program gives the call. -/
theorem v63_13 : V13 m c main_v63 = partK c (m ((c : Thread nD τ).loc main_arg0)) (m ((c : Thread nD τ).loc main_arg1)) (m ((c : Thread nD τ).loc main_arg2))
    (m ((c : Thread nD τ).loc main_arg3)) (m ((c : Thread nD τ).loc main_arg4)) :=
  (st12 (V12 m c)).trans (by rw [v56_12, v14_12, arg3_12]; rfl)

end Cert.AllReduce

end
-- ==== Proof.Value.lean ====
/- What the all-reduce computes on the extended reals: on every device, the sum of what the devices were given. -/
module

public import proofs.«01_k».proof.Proof.Blocks
public import Idealize.ShloMosaic.PureOps.Ideal.Laws
public import Idealize.ShloMosaic.Lib.Pointwise
public import Idealize.ShloMosaic.Lib.IdealHost
public import Idealize.ShloMosaic.Lib.Pipeline.Value

@[expose] public section

noncomputable section

namespace Cert.AllReduce

open Cert.KernelIdeal Cert.KernelIdeal.Gen Idealize.ShloMosaic Idealize.ShloMosaic.TcCoe

variable (X : Dev nD → Vec Ideal S512x512 .f32)

/-- The rows a device sums, at an index. -/
theorem red_at (d : Dev nD) (a : Fin 16) (b : Fin 512) : redF X d (ix2 a b) =
    X d (ix2 ⟨16 * d.val + a.val, by have : d.val < 32 := d.isLt; omega⟩ b) +
      ∑ r : Fin 31, X (sh d r) (ix2 ⟨16 * d.val + a.val, by have : d.val < 32 := d.isLt; omega⟩ b) := by
  have hin : ∀ (off : Fin 2 → Nat) (h : off = ![16 * d.val, 0]) (p : ∀ x, off x + S16x512.size x ≤ S512x512.size x),
      inM.view.readAt (Elt Ideal) (Rect.unit (s := S512x512) off S16x512.size p).toLoadRect (X d) (ix2 a b) =
        X d (ix2 ⟨16 * d.val + a.val, by have : d.val < 32 := d.isLt; omega⟩ b) := by
    intro off h p
    subst h
    refine congrArg (X d) (funext fun x => Fin.ext ?_)
    match x with
    | ⟨0, _⟩ => exact (by omega : 16 * d.val + 1 * a.val = 16 * d.val + a.val)
    | ⟨1, _⟩ => exact (by omega : 0 + 1 * b.val = b.val)
  have hsl : ∀ r : Fin 31, slotsM.view.readAt (Elt Ideal) slotsR.toLoadRect (slotF X d) (ix3 r a b) =
      X (sh d r) (ix2 ⟨16 * d.val + a.val, by have : d.val < 32 := d.isLt; omega⟩ b) := by
    intro r
    have e : slotsM.view.readAt (Elt Ideal) slotsR.toLoadRect (slotF X d) (ix3 r a b) = slotF X d (ix3 r.succ a b) := by
      refine congrArg (slotF X d) (funext fun x => Fin.ext ?_)
      match x with
      | ⟨0, _⟩ => exact (by omega : 1 + 1 * r.val = r.val + 1)
      | ⟨1, _⟩ => exact (by omega : 0 + 1 * a.val = a.val)
      | ⟨2, _⟩ => exact (by omega : 0 + 1 * b.val = b.val)
    rw [e]
    unfold slotF sbF k0_pay1
    simp only [shapeCast_self]
    rfl
  unfold redF k0_pay2
  simp only [shapeCast_self]
  show _ + _ = _
  refine congrArg₂ (· + ·) (hin _ (k0_off2_eq d) _) ?_
  refine (Ideal.reduceAdd_r3_a0 _ _ _).trans (Finset.sum_congr rfl fun r _ => ?_)
  exact hsl r

/-- Every device ends with the sum over the devices. -/
theorem out_at (i : S512x512.Idx) : outF X i = ∑ c : Dev nD, X c i := by
  have hi : (i 0).val < 512 := (i 0).isLt
  have h : outF X i = redF X ⟨(i 0).val / 16, by show _ < 32; omega⟩ (ix2 ⟨(i 0).val % 16, Nat.mod_lt _ (by decide)⟩ ⟨(i 1).val, (i 1).isLt⟩) := by
    unfold outF k0_pay4 gathF agB k0_pay3
    simp only [shapeCast_self]
    generalize redF X = R
    rfl
  have e : (ix2 ⟨16 * ((i 0).val / 16) + (i 0).val % 16, by omega⟩ ⟨(i 1).val, (i 1).isLt⟩ : S512x512.Idx) = i := by
    refine funext fun x => Fin.ext ?_
    match x with
    | ⟨0, _⟩ => exact Nat.div_add_mod _ _
    | ⟨1, _⟩ => rfl
  rw [h, red_at]
  simp only [e]
  rw [← Finset.add_sum_erase _ _ (Finset.mem_univ (⟨(i 0).val / 16, by show _ < 32; omega⟩ : Dev nD)), univ_dev, Finset.sum_map]
  rfl

end Cert.AllReduce

end
-- ==== Proof.HostR.lean ====
/- The attention over all heads on one device, as the composed host operations of the reference. -/
module

public import proofs.«01_k».proof.Proof.Gen.ReferenceIdeal.Run

@[expose] public section

set_option maxRecDepth 2000

noncomputable section

namespace Cert.AllReduce.Whole

open Cert.ReferenceIdeal Cert.ReferenceIdeal.Gen Idealize.ShloMosaic Idealize.ShloMosaic.TcCoe

/-! ## The mask -/

/-- Division of integers rounded down, as the program computes it. -/
def fdivT (x : IVec S256 32) (n : IVec S_ 32) : IVec S256 32 :=
  select (andi (cmpi .ne (signi x) (broadcastInDim S256 ![] bcast_S_S256 (signi (id n))))
      (cmpi .ne (Host.remsi x (broadcastInDim S256 ![] bcast_S_S256 (id n))) (broadcastInDim S256 ![] bcast_S_S256 (constantI S_ 32 0#32))))
    (subi (Host.divsi x (broadcastInDim S256 ![] bcast_S_S256 (id n))) (broadcastInDim S256 ![] bcast_S_S256 (constantI S_ 32 1#32)))
    (Host.divsi x (broadcastInDim S256 ![] bcast_S_S256 (id n)))

/-- The divisor a remainder is taken by: never zero. -/
def modT (n : IVec S_ 32) : IVec S_ 32 := select (cmpi .eq (id n) (constantI S_ 32 0#32)) (constantI S_ 32 1#32) (id n)

/-- The remainder of the sign of the divisor, as the program computes it. -/
def remT (x : IVec S256x256 32) (n : IVec S_ 32) : IVec S256x256 32 :=
  select (andi (cmpi .ne (cmpi .slt (Host.remsi x (broadcastInDim S256x256 ![] bcast_S_S256x256 (modT n))) (broadcastInDim S256x256 ![] bcast_S_S256x256 (constantI S_ 32 0#32)))
        (broadcastInDim S256x256 ![] bcast_S_S256x256 (cmpi .slt (modT n) (constantI S_ 32 0#32))))
      (cmpi .ne (Host.remsi x (broadcastInDim S256x256 ![] bcast_S_S256x256 (modT n))) (broadcastInDim S256x256 ![] bcast_S_S256x256 (constantI S_ 32 0#32))))
    (addi (Host.remsi x (broadcastInDim S256x256 ![] bcast_S_S256x256 (modT n))) (broadcastInDim S256x256 ![] bcast_S_S256x256 (modT n)))
    (Host.remsi x (broadcastInDim S256x256 ![] bcast_S_S256x256 (modT n)))

/-- The block of each query, and of each key. -/
def blkT : IVec S256 32 := fdivT (iotaInDim S256 32 0) (constantI S_ 32 64#32)
def qbT : IVec S256x1 32 := broadcastInDim S256x1 ![0] bcast_S256_S256x1_0 blkT
def kbT : IVec S1x256 32 := broadcastInDim S1x256 ![1] bcast_S256_S1x256_1 blkT
/-- The two blocks agree, or the key's is the first. -/
def nearT : IVec S256x256 1 :=
  ori (cmpi .eq (broadcastInDim S256x256 ![0, 1] bcast_S256x1_S256x256_0_1 qbT) (broadcastInDim S256x256 ![0, 1] bcast_S1x256_S256x256_0_1 kbT))
    (broadcastInDim S256x256 ![0, 1] bcast_S1x256_S256x256_0_1 (cmpi .eq kbT (broadcastInDim S1x256 ![] bcast_S_S1x256 (constantI S_ 32 0#32))))
def sumT : IVec S256x256 32 :=
  addi (broadcastInDim S256x256 ![0, 1] bcast_S256x1_S256x256_0_1 qbT) (broadcastInDim S256x256 ![0, 1] bcast_S1x256_S256x256_0_1 kbT)
/-- The pairs of a query and a key that attend. -/
def maskT : IVec S256x256 1 :=
  ori nearT (cmpi .eq (remT sumT (constantI S_ 32 3#32)) (broadcastInDim S256x256 ![] bcast_S_S256x256 (constantI S_ 32 0#32)))
/-- The queries that attend to some key. -/
def keepT : IVec S256 1 := Host.reduce IntOp.ori maskT (constantI S_ 1 0#1) reducesTo_S256x256_S256_d1 h_S_

/-! ## The layers, for all heads -/

variable {F : FTy → Type} [FloatOps F]

def qR (x : FVec F S2x256x512 .bf16) (wq : FVec F S512x8192 .bf16) : FVec F S2x256x128x64 .bf16 :=
  shapeCast S2x256x128x64 (truncf .bf16 (Host.dotGeneral dot_S2x256x512_S512x8192_S2x256x8192_2_0_01_1_n_n none x wq : FVec F S2x256x8192 .f32) bitsLt_bf16_f32) shapeCasts_S2x256x8192_S2x256x128x64
def scoreR (q k : FVec F S2x256x128x64 .bf16) : FVec F S2x128x256x256 .f32 :=
  mulf (extf .f32 (truncf .bf16 (Host.dotGeneral dot_S2x256x128x64_S2x256x128x64_S2x128x256x256_3_3_1_1_02_02 none q k : FVec F S2x128x256x256 .f32) bitsLt_bf16_f32) bitsLt_bf16_f32) (broadcastInDim S2x128x256x256 ![] bcast_S_S2x128x256x256 (constant S_ .f32 0x3E000000#32))
def maskedR (M : IVec S256x256 1) (s : FVec F S2x128x256x256 .f32) : FVec F S2x128x256x256 .f32 :=
  select (broadcastInDim S2x128x256x256 ![0, 1, 2, 3] bcast_S1x1x256x256_S2x128x256x256_0_1_2_3 (broadcastInDim S1x1x256x256 ![2, 3] bcast_S256x256_S1x1x256x256_2_3 M)) s
    (broadcastInDim S2x128x256x256 ![] bcast_S_S2x128x256x256 (id (constant S_ .f32 0xCE6E6B28#32)))
def expR (s : FVec F S2x128x256x256 .f32) : FVec F S2x128x256x256 .f32 :=
  Host.exp (subf s (broadcastInDim S2x128x256x256 ![0, 1, 2, 3] bcast_S2x128x256x1_S2x128x256x256_0_1_2_3 (broadcastInDim S2x128x256x1 ![0, 1, 2] bcast_S2x128x256_S2x128x256x1_0_1_2
    (Host.reduce FloatOps.maximumf s (constant S_ .f32 0xFF800000#32) reducesTo_S2x128x256x256_S2x128x256_d3 h_S_))))
def totR (e : FVec F S2x128x256x256 .f32) : FVec F S2x128x256x1 .f32 :=
  broadcastInDim S2x128x256x1 ![0, 1, 2] bcast_S2x128x256_S2x128x256x1_0_1_2 (Host.reduceAdd e (constant S_ .f32 0x00000000#32) reducesTo_S2x128x256x256_S2x128x256_d3 h_S_)
def keep4 (k : IVec S256 1) : IVec S1x1x256x1 1 := broadcastInDim S1x1x256x1 ![2] bcast_S256_S1x1x256x1_2 k
def denR (k : IVec S256 1) (e : FVec F S2x128x256x256 .f32) : FVec F S2x128x256x1 .f32 :=
  select (broadcastInDim S2x128x256x1 ![0, 1, 2, 3] bcast_S1x1x256x1_S2x128x256x1_0_1_2_3 (keep4 k)) (totR e) (broadcastInDim S2x128x256x1 ![] bcast_S_S2x128x256x1 (id (constant S_ .f32 0x3F800000#32)))
def wR (k : IVec S256 1) (e : FVec F S2x128x256x256 .f32) : FVec F S2x128x256x256 .f32 :=
  select (broadcastInDim S2x128x256x256 ![0, 1, 2, 3] bcast_S1x1x256x1_S2x128x256x256_0_1_2_3 (keep4 k))
    (Host.divf e (broadcastInDim S2x128x256x256 ![0, 1, 2, 3] bcast_S2x128x256x1_S2x128x256x256_0_1_2_3 (denR k e)))
    (broadcastInDim S2x128x256x256 ![] bcast_S_S2x128x256x256 (id (constant S_ .f32 0x00000000#32)))
def ctxR (v : FVec F S2x256x128x64 .bf16) (w : FVec F S2x128x256x256 .f32) : FVec F S2x256x128x64 .f32 :=
  transpose S2x256x128x64 [0, 3, 1, 2] (Host.dotGeneral dot_S2x256x128x64_S2x128x256x256_S2x128x64x256_1_3_3_2_02_01 none v w : FVec F S2x128x64x256 .f32)
    transposes_S2x128x64x256_S2x256x128x64_0_3_1_2
def outR (ctx : FVec F S2x256x128x64 .f32) (wo : FVec F S8192x512 .bf16) : FVec F S2x256x512 .f32 :=
  Host.dotGeneral dot_S2x256x8192_S8192x512_S2x256x512_2_0_01_1_n_n none (shapeCast S2x256x8192 ctx shapeCasts_S2x256x128x64_S2x256x8192) wo
/-- The attention over all heads. -/
def attnR (x : FVec F S2x256x512 .bf16) (Wq : FVec F S512x8192 .bf16) (k v : FVec F S2x256x128x64 .bf16) (Wo : FVec F S8192x512 .bf16) : FVec F S2x256x512 .f32 :=
  outR (ctxR v (wR keepT (expR (maskedR maskT (scoreR (qR x Wq) k))))) Wo

/-- The reference's result. -/
theorem res_eq (m : (ℓ : Loc nD τ sig) → Buf (Elt F) ℓ) (c : Dev nD) :
    Value.res_main_v47 m c = attnR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v47
  rfl

end Cert.AllReduce.Whole

end
-- ==== Proof.Heads.lean ====
/-
On the extended reals each device computes its own four of the reference's heads: layer by layer, the four-head values
at a head are the reference's at the head's place among all.
-/
module

public import proofs.«01_k».proof.Proof.HostK
public import proofs.«01_k».proof.Proof.HostR
public import Idealize.ShloMosaic.PureOps.Ideal.Laws
public import Idealize.ShloMosaic.Lib.Pointwise
public import Idealize.ShloMosaic.Lib.IdealHost
public import Idealize.ShloMosaic.Lib.Layout
public import Idealize.ShloMosaic.Lib.Pipeline.Value

@[expose] public section

noncomputable section

namespace Cert.AllReduce

open Cert.KernelIdeal Cert.KernelIdeal.Gen Idealize.ShloMosaic Idealize.ShloMosaic.TcCoe

/-- The place of a device's head among all heads. -/
def hd (c : Dev nD) (h : Fin 4) : Fin 128 := ⟨4 * c.val + h.val, by have : c.val < 32 := c.isLt; omega⟩

/-- The two programs' masks are one. -/
theorem mask_eq : Whole.maskT = maskT := rfl
theorem keep_eq : Whole.keepT = keepT := rfl

variable (c : Dev nD)

/-- Values over a device's heads that are those of all heads at its own. -/
def Own (s : FVec Ideal S2x4x256x256 .f32) (s' : FVec Ideal Cert.ReferenceIdeal.S2x128x256x256 .f32) : Prop :=
  ∀ (b : Fin 2) (h : Fin 4) (i j : Fin 256), s (ix4 b h i j) = s' (ix4 b (hd c h) i j)
/-- The same for values with the heads before the last dimension. -/
def OwnT (φ φ' : FTy) (q : FVec Ideal S2x256x4x64 φ) (q' : FVec Ideal Cert.ReferenceIdeal.S2x256x128x64 φ') : Prop :=
  ∀ (b : Fin 2) (i : Fin 256) (h : Fin 4) (d : Fin 64), q (ix4 b i h d) = q' (ix4 b i (hd c h) d)

variable {c}

theorem own_score {q k : FVec Ideal S2x256x4x64 .bf16} {q' k' : FVec Ideal Cert.ReferenceIdeal.S2x256x128x64 .bf16}
    (hq : OwnT c .bf16 .bf16 q q') (hk : OwnT c .bf16 .bf16 k k') : Own c (scoreK q k) (Whole.scoreR q' k') := by
  intro b h i j
  unfold scoreK Whole.scoreR
  simp only [pointwise, fun i h d => hq b i h d, fun i h d => hk b i h d]

theorem own_masked (M : IVec S256x256 1) {s : FVec Ideal S2x4x256x256 .f32} {s' : FVec Ideal Cert.ReferenceIdeal.S2x128x256x256 .f32}
    (hs : Own c s s') : Own c (maskedK M s) (Whole.maskedR M s') := by
  intro b h i j
  unfold maskedK Whole.maskedR
  simp only [pointwise, Nat.reduceEqDiff, reduceDIte, hs b h i j]

theorem own_exp {s : FVec Ideal S2x4x256x256 .f32} {s' : FVec Ideal Cert.ReferenceIdeal.S2x128x256x256 .f32}
    (hs : Own c s s') : Own c (expK s) (Whole.expR s') := by
  intro b h i j
  unfold expK Whole.expR
  simp only [pointwise, Nat.reduceEqDiff, reduceDIte, fun i j => hs b h i j]

theorem own_w (k : IVec S256 1) {s : FVec Ideal S2x4x256x256 .f32} {s' : FVec Ideal Cert.ReferenceIdeal.S2x128x256x256 .f32}
    (hs : Own c s s') : Own c (wK k s) (Whole.wR k s') := by
  intro b h i j
  unfold wK Whole.wR denK Whole.denR totK Whole.totR keep4 Whole.keep4
  simp only [pointwise, Nat.reduceEqDiff, reduceDIte, fun i j => hs b h i j]

theorem own_ctx {v : FVec Ideal S2x256x4x64 .bf16} {v' : FVec Ideal Cert.ReferenceIdeal.S2x256x128x64 .bf16}
    {s : FVec Ideal S2x4x256x256 .f32} {s' : FVec Ideal Cert.ReferenceIdeal.S2x128x256x256 .f32}
    (hv : OwnT c .bf16 .bf16 v v') (hs : Own c s s') : OwnT c .bf16 .f32 (ctxK v s) (Whole.ctxR v' s') := by
  intro b i h d
  unfold ctxK Whole.ctxR
  simp only [pointwise, fun i => hv b i h d, fun i j => hs b h i j]

/-! ## The device's part of the weights -/

variable (c) in
theorem start_val : (startT c (Shape.Idx.first h_S_)).toInt = 256 * c.val := by
  revert c
  decide +kernel

theorem slice_cols {α : Type} (x : S512x8192.Idx → α) (st : Fin 2 → Int) (h : S512x8192.Slices (fun _ => 0) S512x256) (o : Nat) (h0 : st 0 = 0) (h1 : st 1 = o)
    (ho : o + 256 ≤ 8192) (k : Fin 512) (n : Fin 256) : Host.dynamicSlice S512x256 x st h (ix2 k n) = x (ix2 k ⟨o + n.val, by omega⟩) := by
  have c0 : Host.clampedStart S512x8192 S512x256 h.1 st (0 : Fin 2) = 0 := Host.clampedStart_of_le h.1 st (0 : Fin 2) 0 h0 (by show 0 + 512 ≤ 512; omega)
  have c1 : Host.clampedStart S512x8192 S512x256 h.1 st (1 : Fin 2) = o := Host.clampedStart_of_le h.1 st (1 : Fin 2) o h1 ho
  refine (Host.dynamicSlice_apply _ _ _ _).trans (congrArg x (funext fun y => Fin.ext ?_))
  match y with
  | ⟨0, _⟩ => exact (congrArg (· + k.val) c0).trans (Nat.zero_add _)
  | ⟨1, _⟩ => exact congrArg (· + n.val) c1

theorem slice_rows {α : Type} (x : S8192x512.Idx → α) (st : Fin 2 → Int) (h : S8192x512.Slices (fun _ => 0) S256x512) (o : Nat) (h0 : st 0 = o) (h1 : st 1 = 0)
    (ho : o + 256 ≤ 8192) (k : Fin 256) (n : Fin 512) : Host.dynamicSlice S256x512 x st h (ix2 k n) = x (ix2 ⟨o + k.val, by omega⟩ n) := by
  have c0 : Host.clampedStart S8192x512 S256x512 h.1 st (0 : Fin 2) = o := Host.clampedStart_of_le h.1 st (0 : Fin 2) o h0 ho
  have c1 : Host.clampedStart S8192x512 S256x512 h.1 st (1 : Fin 2) = 0 := Host.clampedStart_of_le h.1 st (1 : Fin 2) 0 h1 (by show 0 + 512 ≤ 512; omega)
  refine (Host.dynamicSlice_apply _ _ _ _).trans (congrArg x (funext fun y => Fin.ext ?_))
  match y with
  | ⟨0, _⟩ => exact congrArg (· + k.val) c0
  | ⟨1, _⟩ => exact (congrArg (· + n.val) c1).trans (Nat.zero_add _)

theorem qw_at (Wq : FVec Ideal S512x8192 .bf16) (k : Fin 512) (n : Fin 256) :
    qwK (F := Ideal) c Wq (ix2 k n) = Wq (ix2 k ⟨256 * c.val + n.val, by have : c.val < 32 := c.isLt; omega⟩) :=
  slice_cols Wq _ _ (256 * c.val) rfl (start_val c) (by have : c.val < 32 := c.isLt; omega) k n

theorem ow_at (Wo : FVec Ideal S8192x512 .bf16) (k : Fin 256) (n : Fin 512) :
    owK (F := Ideal) c Wo (ix2 k n) = Wo (ix2 ⟨256 * c.val + k.val, by have : c.val < 32 := c.isLt; omega⟩ n) :=
  slice_rows Wo _ _ (256 * c.val) (start_val c) rfl (by have : c.val < 32 := c.isLt; omega) k n

theorem own_q (x : FVec Ideal S2x256x512 .bf16) (Wq : FVec Ideal S512x8192 .bf16) : OwnT c .bf16 .bf16 (qK x (qwK (F := Ideal) c Wq)) (Whole.qR x Wq) := by
  intro b i h d
  unfold qK Whole.qR
  simp only [pointwise, qw_at]
  refine congrArg (0 + ·) (Finset.sum_congr rfl fun k _ => congrArg (fun n => x (ix3 b i k) * Wq (ix2 k n)) (Fin.ext ?_))
  show 256 * c.val + (h.val * 64 + d.val) = (4 * c.val + h.val) * 64 + d.val
  omega

theorem own_block (X : FVec Ideal Cert.ReferenceIdeal.S2x256x128x64 .bf16) : OwnT c .bf16 .bf16 (Layout.block ⟨4, ![2, 256, 4, 64]⟩ ⟨4, ![2, 256, 128, 64]⟩ 2 32 c X) X := by
  intro b i h d
  refine congrArg X (funext fun y => Fin.ext ?_)
  match y with
  | ⟨0, _⟩ => rfl
  | ⟨1, _⟩ => rfl
  | ⟨2, _⟩ => exact (by omega : c.val * 4 + h.val = 4 * c.val + h.val)
  | ⟨3, _⟩ => rfl

/-! ## The sum of the devices' partial products -/

theorem split_cols (f : Fin 8192 → EReal) : ∑ c : Dev nD, ∑ k : Fin 256, f ⟨256 * c.val + k.val, by have : c.val < 32 := c.isLt; omega⟩ = ∑ n : Fin 8192, f n := by
  rw [← Equiv.sum_comp (finProdFinEquiv (m := 32) (n := 256)) f, Fintype.sum_prod_type]
  refine Finset.sum_congr rfl fun c _ => Finset.sum_congr rfl fun k _ => congrArg f (Fin.ext ?_)
  show 256 * c.val + k.val = k.val + 256 * c.val
  omega

theorem whole_at (x : FVec Ideal S2x256x512 .bf16) (Wq : FVec Ideal S512x8192 .bf16) (K V : Dev nD → FVec Ideal S2x256x4x64 .bf16)
    (K' V' : FVec Ideal Cert.ReferenceIdeal.S2x256x128x64 .bf16) (Wo : FVec Ideal S8192x512 .bf16)
    (hK : ∀ c, OwnT c .bf16 .bf16 (K c) K') (hV : ∀ c, OwnT c .bf16 .bf16 (V c) V') (b : Fin 2) (s : Fin 256) (n : Fin 512) :
    ∑ c : Dev nD, partK (F := Ideal) c x Wq (K c) (V c) Wo (ix2 ⟨b.val * 256 + s.val, by omega⟩ n) = Whole.attnR x Wq K' V' Wo (ix3 b s n) := by
  unfold partK Whole.attnR
  rw [mask_eq, keep_eq]
  have hc (c : Dev nD) := own_ctx (hV c) (own_w keepT (own_exp (own_masked maskT (own_score (own_q (c := c) x Wq) (hK c)))))
  generalize Whole.ctxR (F := Ideal) _ _ = C at hc ⊢
  unfold outK Whole.outR
  simp only [pointwise, ow_at, zero_add]
  rw [← split_cols]
  refine Finset.sum_congr rfl fun c _ => Finset.sum_congr rfl fun k _ => ?_
  refine congrArg₂ (· * ·) ((hc c _ _ _ _).trans (congrArg C ?_)) rfl
  have h1 : 4 * c.val + k.val / 64 = (256 * c.val + k.val) / 64 := by omega
  have h2 : k.val % 64 = (256 * c.val + k.val) % 64 := by omega
  refine funext fun y => Fin.ext ?_
  match y with
  | ⟨0, _⟩ => rfl
  | ⟨1, _⟩ => rfl
  | ⟨2, _⟩ => exact h1
  | ⟨3, _⟩ => exact h2

end Cert.AllReduce

end
-- ==== Proof.Final.lean ====
/-
On the extended reals the program's result, on every device, is the reference's: the sum over the devices of their
partial products is the reference's last product.
-/
module

public import proofs.«01_k».proof.Proof.Main
public import proofs.«01_k».proof.Proof.Stretch
public import proofs.«01_k».proof.Proof.Value
public import proofs.«01_k».proof.Proof.Heads

@[expose] public section

noncomputable section

namespace Cert.AllReduce

open Cert.KernelIdeal Cert.KernelIdeal.Gen Idealize.ShloMosaic Idealize.ShloMosaic.TcCoe

/-- The sum of partial products that agree with the reference's, as the program reshapes it. -/
theorem sum_eq (P : Dev nD → Vec Ideal S512x512 .f32) (R : FVec Ideal S2x256x512 .f32)
    (h : ∀ (b : Fin 2) (s : Fin 256) (n : Fin 512), ∑ c : Dev nD, P c (ix2 ⟨b.val * 256 + s.val, by omega⟩ n) = R (ix3 b s n)) :
    shapeCast S2x256x512 (outF P) shapeCasts_S512x512_S2x256x512 = R := by
  funext j
  have hj : j = ix3 (j 0) (j 1) (j 2) := by
    refine funext fun y => ?_
    match y with
    | ⟨0, _⟩ => rfl
    | ⟨1, _⟩ => rfl
    | ⟨2, _⟩ => rfl
  rw [hj]
  refine Eq.trans ?_ (h (j 0) (j 1) (j 2))
  refine (shapeCast_apply _ _ _ (ix2 ⟨(j 0).val * 256 + (j 1).val, ?_⟩ (j 2)) ?_).trans (out_at P _)
  · have h0 : (j 0).val < 2 := (j 0).isLt
    have h1 : (j 1).val < 256 := (j 1).isLt
    omega
  · exact (Shape.rowMajor_val_two _).trans (Shape.rowMajor_val_three _).symm

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- The program's result is the reference's. -/
theorem final_eq
    (h0 : ∀ c : Dev nD, m ((c : Thread nD τ).loc main_arg0) = m' (((0 : Dev Cert.ReferenceIdeal.nD).tc : Thread Cert.ReferenceIdeal.nD Cert.ReferenceIdeal.τ).loc Cert.ReferenceIdeal.main_arg0))
    (h1 : ∀ c : Dev nD, m ((c : Thread nD τ).loc main_arg1) = m' (((0 : Dev Cert.ReferenceIdeal.nD).tc : Thread Cert.ReferenceIdeal.nD Cert.ReferenceIdeal.τ).loc Cert.ReferenceIdeal.main_arg1))
    (h2 : ∀ c : Dev nD, m ((c : Thread nD τ).loc main_arg2) = Layout.block ⟨4, ![2, 256, 4, 64]⟩ ⟨4, ![2, 256, 128, 64]⟩ 2 32 c
      (m' (((0 : Dev Cert.ReferenceIdeal.nD).tc : Thread Cert.ReferenceIdeal.nD Cert.ReferenceIdeal.τ).loc Cert.ReferenceIdeal.main_arg2)))
    (h3 : ∀ c : Dev nD, m ((c : Thread nD τ).loc main_arg3) = Layout.block ⟨4, ![2, 256, 4, 64]⟩ ⟨4, ![2, 256, 128, 64]⟩ 2 32 c
      (m' (((0 : Dev Cert.ReferenceIdeal.nD).tc : Thread Cert.ReferenceIdeal.nD Cert.ReferenceIdeal.τ).loc Cert.ReferenceIdeal.main_arg3)))
    (h4 : ∀ c : Dev nD, m ((c : Thread nD τ).loc main_arg4) = m' (((0 : Dev Cert.ReferenceIdeal.nD).tc : Thread Cert.ReferenceIdeal.nD Cert.ReferenceIdeal.τ).loc Cert.ReferenceIdeal.main_arg4)) :
    shapeCast S2x256x512 (outF fun c : Dev nD => (V13 m c main_v63 : Vec Ideal S512x512 .f32)) shapeCasts_S512x512_S2x256x512
      = Cert.ReferenceIdeal.Value.res_main_v47 m' 0 := by
  refine Eq.trans (sum_eq _ _ fun b s n => ?_) (Whole.res_eq m' 0).symm
  refine Eq.trans (Finset.sum_congr rfl fun c _ => ?_)
    (whole_at (m' (((0 : Dev Cert.ReferenceIdeal.nD).tc : Thread Cert.ReferenceIdeal.nD Cert.ReferenceIdeal.τ).loc Cert.ReferenceIdeal.main_arg0)) _
      (fun c => m ((c : Thread nD τ).loc main_arg2)) (fun c => m ((c : Thread nD τ).loc main_arg3)) _ _ _ (fun c => ?_) (fun c => ?_) b s n)
  · rw [v63_13, h0, h1, h4]
  · rw [h2]; exact own_block _
  · rw [h3]; exact own_block _

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Final
public import Idealize.ShloMosaic.Lib.Quiescent
public import Idealize.ShloMosaic.Adequacy
public import Idealize.ShloMosaic.Init

@[expose] public section

noncomputable section

namespace Cert.Proof

open Idealize.ShloMosaic Idealize.SL.Sem Cert.Kernel

open Idealize.ShloMosaic.TcCoe in
/-- The frame, for any float values. -/
theorem frame {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).1, h.2⟩) (Cert.AllReduce.run_main m ρ)

/-- The two programs print the same text: their body tables agree. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) := congrArg (Pipeline.defs _) defs₀_eq

-- sixty operations are compared one by one
set_option maxHeartbeats 2000000 in
theorem main_part0_eq : Cert.Kernel.main_part0 (F := Bits) = Cert.KernelIdeal.main_part0 (F := Bits) := rfl
theorem main_part1_eq : Cert.Kernel.main_part1 (F := Bits) = Cert.KernelIdeal.main_part1 (F := Bits) := rfl
theorem main_eq : Cert.Kernel.main (F := Bits) = Cert.KernelIdeal.main (F := Bits) := by
  funext d
  unfold Cert.Kernel.main Cert.KernelIdeal.main
  rw [main_part0_eq, main_part1_eq]

theorem frame_kernel : Cert.quiescent_Kernel := fun m ρ _ => by
  refine (θ_run Cert.Kernel.defs _ _).mono (fun _ h => h) ?_
  have h := frame (F := Bits) m ρ
  rw [← defs_eq, ← main_eq] at h
  exact h

theorem frame_ideal : Cert.quiescent_KernelIdeal := fun m ρ _ => frame (F := Ideal) m ρ

theorem frame_reference : Cert.quiescent_ReferenceIdeal := fun m ρ _ =>
  (θ_run Cert.ReferenceIdeal.defs _ _).mono (fun _ h => ⟨fun c => (h c).2, sem_eq_zero_of_no_sems (by decide) _⟩)
    (Cert.ReferenceIdeal.Value.run (F := Ideal) m ρ)

/-- On the extended reals every device ends with what the reference computes of the whole arrays. -/
theorem algebraic : Cert.algebraic_KernelIdeal_ReferenceIdeal := fun m ρ m' ρ' _ h =>
  ⟨_, (θ_run Cert.KernelIdeal.defs _ _).mono (fun _ h' c => ⟨(h'.1 c).2.trans (Cert.AllReduce.final_eq m m'
        (fun c => (h c).1) (fun c => (h c).2.1) (fun c => (h c).2.2.1) (fun c => (h c).2.2.2.1) (fun c => (h c).2.2.2.2)), (h'.1 c).1⟩)
      (Cert.AllReduce.run_main (F := Ideal) m ρ),
    (θ_run Cert.ReferenceIdeal.defs _ _).mono (fun _ h' => h' 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
